-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_zero_queries [hPre_tokens_and_zero_queries : Cert.Pre_tokens_and_zero_queries.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_zero_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_tokens_and_zero_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_tokens_and_zero_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_tokens_and_zero_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_tokens_and_zero_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_zero_queries [hPre_tokens_and_zero_queries : Cert.Pre_tokens_and_zero_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_zero_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_tokens_and_zero_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_tokens_and_zero_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_tokens_and_zero_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_tokens_and_zero_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_tokens_and_zero_queries [hKernelIdeal : Cert.KernelIdeal.Facts] [hPre_tokens_and_zero_queries : Cert.Pre_tokens_and_zero_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_zero_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_tokens_and_zero_queries [hReferenceIdeal : Cert.ReferenceIdeal.Facts] [hPre_tokens_and_zero_queries : Cert.Pre_tokens_and_zero_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_zero_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_tokens_and_zero_queries [hKernelIdeal : Cert.KernelIdeal.Facts] [hReferenceIdeal : Cert.ReferenceIdeal.Facts] [hPre_tokens_and_zero_queries : Cert.Pre_tokens_and_zero_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_zero_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_tokens_and_zero_queries : Cert.Pre_tokens_and_zero_queries.Facts),
    quiescent_Kernel (hKernel := hKernel)
    ∧ quiescent_KernelIdeal (hKernelIdeal := hKernelIdeal)
    ∧ quiescent_KernelIdeal_pre_tokens_and_zero_queries (hKernelIdeal := hKernelIdeal) (hPre_tokens_and_zero_queries := hPre_tokens_and_zero_queries)
    ∧ quiescent_ReferenceIdeal (hReferenceIdeal := hReferenceIdeal)
    ∧ quiescent_ReferenceIdeal_pre_tokens_and_zero_queries (hReferenceIdeal := hReferenceIdeal) (hPre_tokens_and_zero_queries := hPre_tokens_and_zero_queries)
    ∧ preserves_Kernel_KernelIdeal
    ∧ algebraic_KernelIdeal_ReferenceIdeal_pre_tokens_and_zero_queries (hKernelIdeal := hKernelIdeal) (hReferenceIdeal := hReferenceIdeal) (hPre_tokens_and_zero_queries := hPre_tokens_and_zero_queries)
-- ==== Pre_tokens_and_zero_queries.lean ====
abbrev S8192 : Shape := ⟨1, ![8192]⟩
abbrev S3x8 : Shape := ⟨2, ![3, 8]⟩
abbrev S48x16 : Shape := ⟨2, ![48, 16]⟩
abbrev S48 : Shape := ⟨1, ![48]⟩
abbrev S16x16 : Shape := ⟨2, ![16, 16]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S8192 : S_.BroadcastsInDim S8192 (![] : Fin 0 → Fin S8192.rank)
  slices_S48x16_S16x16_0_0 : S48x16.Slices ![0, 0] S16x16
  bcast_S_S16x16 : S_.BroadcastsInDim S16x16 (![] : Fin 0 → Fin S16x16.rank)
  slices_S48_S16_0 : S48.Slices ![0] S16
  bcast_S_S16 : S_.BroadcastsInDim S16 (![] : Fin 0 → Fin S16.rank)

variable [Facts]

def fn {F : FTy → Type} [FloatOps F] (main_arg0 : IVec S8192 32) (main_arg1 : FVec F S3x8 .f32) (main_arg2 : FVec F S48x16 .f32) (main_arg3 : FVec F S48 .f32) (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S48x16 .f32) (main_arg11 : FVec F S48 .f32) (main_arg12 : FVec F S16x16 .f32) (main_arg13 : FVec F S16 .f32) (main_arg14 : FVec F S16x16 .f32) (main_arg15 : FVec F S16 .f32) (main_arg16 : FVec F S16x16 .f32) (main_arg17 : FVec F S16 .f32) (main_arg18 : FVec F S1x16 .f32) (main_arg19 : FVec F S1 .f32) : IVec S8192 1 × IVec S16x16 1 × IVec S16 1 × IVec S16x16 1 × IVec S16 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 3#32
  let main_v2 : IVec S8192 32 := broadcastInDim S8192 ![] bcast_S_S8192 main_c_0
  let main_v3 : IVec S8192 1 := cmpi .slt main_arg0 main_v2
  let main_v4 : IVec S8192 1 := andi main_v1 main_v3
  let main_v5 : FVec F S16x16 .f32 := (extractStridedSlice S16x16 ![0, 0] · slices_S48x16_S16x16_0_0) main_arg2
  let main_cst : FVec F S_ .f32 := constant S_ .f32 0x00000000#32
  let main_v6 : FVec F S16x16 .f32 := broadcastInDim S16x16 ![] bcast_S_S16x16 main_cst
  let main_v7 : IVec S16x16 1 := cmpf .oeq main_v5 main_v6
  let main_v8 : FVec F S16 .f32 := (extractStridedSlice S16 ![0] · slices_S48_S16_0) main_arg3
  let main_cst_1 : FVec F S_ .f32 := constant S_ .f32 0x00000000#32
  let main_v9 : FVec F S16 .f32 := broadcastInDim S16 ![] bcast_S_S16 main_cst_1
  let main_v10 : IVec S16 1 := cmpf .oeq main_v8 main_v9
  let main_v11 : FVec F S16x16 .f32 := (extractStridedSlice S16x16 ![0, 0] · slices_S48x16_S16x16_0_0) main_arg10
  let main_cst_2 : FVec F S_ .f32 := constant S_ .f32 0x00000000#32
  let main_v12 : FVec F S16x16 .f32 := broadcastInDim S16x16 ![] bcast_S_S16x16 main_cst_2
  let main_v13 : IVec S16x16 1 := cmpf .oeq main_v11 main_v12
  let main_v14 : FVec F S16 .f32 := (extractStridedSlice S16 ![0] · slices_S48_S16_0) main_arg11
  let main_cst_3 : FVec F S_ .f32 := constant S_ .f32 0x00000000#32
  let main_v15 : FVec F S16 .f32 := broadcastInDim S16 ![] bcast_S_S16 main_cst_3
  let main_v16 : IVec S16 1 := cmpf .oeq main_v14 main_v15
  (main_v4, main_v7, main_v10, main_v13, main_v16)
-- ==== Kernel.lean ====
abbrev S8192 : Shape := ⟨1, ![8192]⟩
abbrev S3x8 : Shape := ⟨2, ![3, 8]⟩
abbrev S48x16 : Shape := ⟨2, ![48, 16]⟩
abbrev S48 : Shape := ⟨1, ![48]⟩
abbrev S16x16 : Shape := ⟨2, ![16, 16]⟩
abbrev S16 : Shape := ⟨1, ![16]⟩
abbrev S1x16 : Shape := ⟨2, ![1, 16]⟩
abbrev S1 : Shape := ⟨1, ![1]⟩
abbrev S1x8192 : Shape := ⟨2, ![1, 8192]⟩
abbrev S48x1 : Shape := ⟨2, ![48, 1]⟩
abbrev S16x1 : Shape := ⟨2, ![16, 1]⟩
abbrev S1x1 : Shape := ⟨2, ![1, 1]⟩
abbrev S3x8192 : Shape := ⟨2, ![3, 8192]⟩
abbrev S8x8192 : Shape := ⟨2, ![8, 8192]⟩
abbrev S16x8192 : Shape := ⟨2, ![16, 8192]⟩

abbrev nBuf : Space → Nat
  | .hbm => 32
  | .vmem => 21
  | .smem => 0
  | _ => 0

abbrev bufTy : (tb : Table) → Fin (tcTables nBuf tb) → BufTy
  | .hbm, ⟨0, _⟩ => ⟨S8192, .i32⟩
  | .hbm, ⟨1, _⟩ => ⟨S3x8, .f32⟩
  | .hbm, ⟨2, _⟩ => ⟨S48x16, .f32⟩
  | .hbm, ⟨3, _⟩ => ⟨S48, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S48x16, .f32⟩
  | .hbm, ⟨11, _⟩ => ⟨S48, .f32⟩
  | .hbm, ⟨12, _⟩ => ⟨S16x16, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S16x16, .f32⟩
  | .hbm, ⟨17, _⟩ => ⟨S16, .f32⟩
  | .hbm, ⟨18, _⟩ => ⟨S1x16, .f32⟩
  | .hbm, ⟨19, _⟩ => ⟨S1, .f32⟩
  | .hbm, ⟨20, _⟩ => ⟨S1x8192, .i32⟩
  | .hbm, ⟨21, _⟩ => ⟨S48x1, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S48x1, .f32⟩
  | .hbm, ⟨26, _⟩ => ⟨S16x1, .f32⟩
  | .hbm, ⟨27, _⟩ => ⟨S16x1, .f32⟩
  | .hbm, ⟨28, _⟩ => ⟨S16x1, .f32⟩
  | .hbm, ⟨29, _⟩ => ⟨S1x1, .f32⟩
  | .hbm, ⟨30, _⟩ => ⟨S1x1, .f32⟩
  | .hbm, ⟨31, _⟩ => ⟨S1, .f32⟩
  | .local _ .vmem, ⟨0, _⟩ => ⟨S1x8192, .i32⟩
  | .local _ .vmem, ⟨1, _⟩ => ⟨S3x8, .f32⟩
  | .local _ .vmem, ⟨2, _⟩ => ⟨S48x16, .f32⟩
  | .local _ .vmem, ⟨3, _⟩ => ⟨S48x1, .f32⟩
  | .local _ .vmem, ⟨4, _⟩ => ⟨S16x16, .f32⟩
  | .local _ .vmem, ⟨5, _⟩ => ⟨S16x1, .f32⟩
  | .local _ .vmem, ⟨6, _⟩ => ⟨S16x16, .f32⟩
  | .local _ .vmem, ⟨7, _⟩ => ⟨S16x1, .f32⟩
  | .local _ .vmem, ⟨8, _⟩ => ⟨S16x16, .f32⟩
  | .local _ .vmem, ⟨9, _⟩ => ⟨S16x1, .f32⟩
  | .local _ .vmem, ⟨10, _⟩ => ⟨S48x16, .f32⟩
  | .local _ .vmem, ⟨11, _⟩ => ⟨S48x1, .f32⟩
  | .local _ .vmem, ⟨12, _⟩ => ⟨S16x16, .f32⟩
  | .local _ .vmem, ⟨13, _⟩ => ⟨S16x1, .f32⟩
  | .local _ .vmem, ⟨14, _⟩ => ⟨S16x16, .f32⟩
  | .local _ .vmem, ⟨15, _⟩ => ⟨S16x1, .f32⟩
  | .local _ .vmem, ⟨16, _⟩ => ⟨S16x16, .f32⟩
  | .local _ .vmem, ⟨17, _⟩ => ⟨S16x1, .f32⟩
  | .local _ .vmem, ⟨18, _⟩ => ⟨S1x16, .f32⟩
  | .local _ .vmem, ⟨19, _⟩ => ⟨S1x1, .f32⟩
  | .local _ .vmem, ⟨20, _⟩ => ⟨S1x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S48x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== ReferenceIdeal.lean ====
abbrev S8192 : Shape := ⟨1, ![8192]⟩
abbrev S3x8 : Shape := ⟨2, ![3, 8]⟩
abbrev S48x16 : Shape := ⟨2, ![48, 16]⟩
abbrev S48 : Shape := ⟨1, ![48]⟩
abbrev S16x16 : Shape := ⟨2, ![16, 16]⟩
abbrev S16 : Shape := ⟨1, ![16]⟩
abbrev S1x16 : Shape := ⟨2, ![1, 16]⟩
abbrev S1 : Shape := ⟨1, ![1]⟩
abbrev S_ : Shape := ⟨0, ![]⟩
abbrev S8192x1 : Shape := ⟨2, ![8192, 1]⟩
abbrev S8192x8 : Shape := ⟨2, ![8192, 8]⟩
abbrev S8192x16 : Shape := ⟨2, ![8192, 16]⟩
abbrev S16x8192 : Shape := ⟨2, ![16, 8192]⟩
abbrev S8192x8192 : Shape := ⟨2, ![8192, 8192]⟩
abbrev S16x1 : Shape := ⟨2, ![16, 1]⟩

abbrev nBuf : Space → Nat
  | .hbm => 238
  | .vmem => 0
  | .smem => 0
  | _ => 0

abbrev hbmTy0_0 (i : Nat) : BufTy := match i % 128 with
  | 0 => ⟨S8192, .i32⟩
  | 1 => ⟨S3x8, .f32⟩
  | 2 => ⟨S48x16, .f32⟩
  | 3 => ⟨S48, .f32⟩
  | 4 => ⟨S16x16, .f32⟩
  | 5 => ⟨S16, .f32⟩
  | 6 => ⟨S16x16, .f32⟩
  | 7 => ⟨S16, .f32⟩
  | 8 => ⟨S16x16, .f32⟩
  | 9 => ⟨S16, .f32⟩
  | 10 => ⟨S48x16, .f32⟩
  | 11 => ⟨S48, .f32⟩
  | 12 => ⟨S16x16, .f32⟩
  | 13 => ⟨S16, .f32⟩
  | 14 => ⟨S16x16, .f32⟩
  | 15 => ⟨S16, .f32⟩
  | 16 => ⟨S16x16, .f32⟩
  | 17 => ⟨S16, .f32⟩
  | 18 => ⟨S1x16, .f32⟩
  | 19 => ⟨S1, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x8, .f32⟩
  | 29 => ⟨S8192x8, .f32⟩
  | 30 => ⟨S8192x16, .f32⟩
  | 31 => ⟨S16x16, .f32⟩
  | 32 => ⟨S16x16, .f32⟩
  | 33 => ⟨S16x16, .f32⟩
  | 34 => ⟨S16, .f32⟩
  | 35 => ⟨S16, .f32⟩
  | 36 => ⟨S16, .f32⟩
  | 37 => ⟨S16x16, .f32⟩
  | 38 => ⟨S8192x16, .f32⟩
  | 39 => ⟨S1x16, .f32⟩
  | 40 => ⟨S8192x16, .f32⟩
  | 41 => ⟨S8192x16, .f32⟩
  | 42 => ⟨S16x16, .f32⟩
  | 43 => ⟨S8192x16, .f32⟩
  | 44 => ⟨S1x16, .f32⟩
  | 45 => ⟨S8192x16, .f32⟩
  | 46 => ⟨S8192x16, .f32⟩
  | 47 => ⟨S16x16, .f32⟩
  | 48 => ⟨S8192x16, .f32⟩
  | 49 => ⟨S1x16, .f32⟩
  | 50 => ⟨S8192x16, .f32⟩
  | 51 => ⟨S8192x16, .f32⟩
  | 52 => ⟨S16x8192, .f32⟩
  | 53 => ⟨S8192x8192, .f32⟩
  | 54 => ⟨S_, .f32⟩
  | 55 => ⟨S8192x8192, .f32⟩
  | 56 => ⟨S8192x8192, .f32⟩
  | 57 => ⟨S_, .f32⟩
  | 58 => ⟨S8192, .f32⟩
  | 59 => ⟨S_, .f32⟩
  | 60 => ⟨S8192, .f32⟩
  | 61 => ⟨S8192, .f32⟩
  | 62 => ⟨S8192x1, .f32⟩
  | 63 => ⟨S8192x8192, .f32⟩
  | 64 => ⟨S8192x8192, .f32⟩
  | 65 => ⟨S8192x8192, .f32⟩
  | 66 => ⟨S_, .f32⟩
  | 67 => ⟨S8192, .f32⟩
  | 68 => ⟨S8192x1, .f32⟩
  | 69 => ⟨S8192x8192, .f32⟩
  | 70 => ⟨S8192x8192, .f32⟩
  | 71 => ⟨S8192x16, .f32⟩
  | 72 => ⟨S16x16, .f32⟩
  | 73 => ⟨S8192x16, .f32⟩
  | 74 => ⟨S1x16, .f32⟩
  | 75 => ⟨S8192x16, .f32⟩
  | 76 => ⟨S8192x16, .f32⟩
  | 77 => ⟨S8192x16, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S8192x16, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S8192x16, .f32⟩
  | 94 => ⟨S8192x16, .f32⟩
  | 95 => ⟨S8192x1, .f32⟩
  | 96 => ⟨S8192x16, .f32⟩
  | 97 => ⟨S8192x16, .f32⟩
  | 98 => ⟨S16x16, .f32⟩
  | 99 => ⟨S8192x16, .f32⟩
  | 100 => ⟨S1x16, .f32⟩
  | 101 => ⟨S8192x16, .f32⟩
  | 102 => ⟨S8192x16, .f32⟩
  | 103 => ⟨S_, .f32⟩
  | 104 => ⟨S8192x16, .f32⟩
  | 105 => ⟨S8192x16, .f32⟩
  | 106 => ⟨S16x16, .f32⟩
  | 107 => ⟨S8192x16, .f32⟩
  | 108 => ⟨S1x16, .f32⟩
  | 109 => ⟨S8192x16, .f32⟩
  | 110 => ⟨S8192x16, .f32⟩
  | 111 => ⟨S8192x16, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x16, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x1, .f32⟩
  | 126 => ⟨S8192x1, .f32⟩
  | 127 => ⟨S8192x16, .f32⟩
  | _ => ⟨S8192, .i32⟩

abbrev hbmTy0_1 (i : Nat) : BufTy := match i % 128 with
  | 0 => ⟨S8192x16, .f32⟩
  | 1 => ⟨S8192x1, .f32⟩
  | 2 => ⟨S8192x16, .f32⟩
  | 3 => ⟨S8192x16, .f32⟩
  | 4 => ⟨S16x16, .f32⟩
  | 5 => ⟨S16x16, .f32⟩
  | 6 => ⟨S16x16, .f32⟩
  | 7 => ⟨S16, .f32⟩
  | 8 => ⟨S16, .f32⟩
  | 9 => ⟨S16, .f32⟩
  | 10 => ⟨S16x16, .f32⟩
  | 11 => ⟨S8192x16, .f32⟩
  | 12 => ⟨S1x16, .f32⟩
  | 13 => ⟨S8192x16, .f32⟩
  | 14 => ⟨S8192x16, .f32⟩
  | 15 => ⟨S16x16, .f32⟩
  | 16 => ⟨S8192x16, .f32⟩
  | 17 => ⟨S1x16, .f32⟩
  | 18 => ⟨S8192x16, .f32⟩
  | 19 => ⟨S8192x16, .f32⟩
  | 20 => ⟨S16x16, .f32⟩
  | 21 => ⟨S8192x16, .f32⟩
  | 22 => ⟨S1x16, .f32⟩
  | 23 => ⟨S8192x16, .f32⟩
  | 24 => ⟨S8192x16, .f32⟩
  | 25 => ⟨S16x8192, .f32⟩
  | 26 => ⟨S8192x8192, .f32⟩
  | 27 => ⟨S_, .f32⟩
  | 28 => ⟨S8192x8192, .f32⟩
  | 29 => ⟨S8192x8192, .f32⟩
  | 30 => ⟨S_, .f32⟩
  | 31 => ⟨S8192, .f32⟩
  | 32 => ⟨S_, .f32⟩
  | 33 => ⟨S8192, .f32⟩
  | 34 => ⟨S8192, .f32⟩
  | 35 => ⟨S8192x1, .f32⟩
  | 36 => ⟨S8192x8192, .f32⟩
  | 37 => ⟨S8192x8192, .f32⟩
  | 38 => ⟨S8192x8192, .f32⟩
  | 39 => ⟨S_, .f32⟩
  | 40 => ⟨S8192, .f32⟩
  | 41 => ⟨S8192x1, .f32⟩
  | 42 => ⟨S8192x8192, .f32⟩
  | 43 => ⟨S8192x8192, .f32⟩
  | 44 => ⟨S8192x16, .f32⟩
  | 45 => ⟨S16x16, .f32⟩
  | 46 => ⟨S8192x16, .f32⟩
  | 47 => ⟨S1x16, .f32⟩
  | 48 => ⟨S8192x16, .f32⟩
  | 49 => ⟨S8192x16, .f32⟩
  | 50 => ⟨S8192x16, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x16, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S8192x16, .f32⟩
  | 67 => ⟨S8192x16, .f32⟩
  | 68 => ⟨S8192x1, .f32⟩
  | 69 => ⟨S8192x16, .f32⟩
  | 70 => ⟨S8192x16, .f32⟩
  | 71 => ⟨S16x16, .f32⟩
  | 72 => ⟨S8192x16, .f32⟩
  | 73 => ⟨S1x16, .f32⟩
  | 74 => ⟨S8192x16, .f32⟩
  | 75 => ⟨S8192x16, .f32⟩
  | 76 => ⟨S_, .f32⟩
  | 77 => ⟨S8192x16, .f32⟩
  | 78 => ⟨S8192x16, .f32⟩
  | 79 => ⟨S16x16, .f32⟩
  | 80 => ⟨S8192x16, .f32⟩
  | 81 => ⟨S1x16, .f32⟩
  | 82 => ⟨S8192x16, .f32⟩
  | 83 => ⟨S8192x16, .f32⟩
  | 84 => ⟨S8192x16, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x16, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x1, .f32⟩
  | 99 => ⟨S8192x1, .f32⟩
  | 100 => ⟨S8192x16, .f32⟩
  | 101 => ⟨S8192x16, .f32⟩
  | 102 => ⟨S8192x1, .f32⟩
  | 103 => ⟨S8192x16, .f32⟩
  | 104 => ⟨S8192x16, .f32⟩
  | 105 => ⟨S1x16, .f32⟩
  | 106 => ⟨S16, .f32⟩
  | 107 => ⟨S16x1, .f32⟩
  | 108 => ⟨S1, .f32⟩
  | 109 => ⟨S1, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_cst_1 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call0_cst : Ref sig .tc := ⟨.hbm, 103, rfl⟩
abbrev main_call0_v0 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_8 : Ref sig .tc := ⟨.hbm, 112, rfl⟩
abbrev main_v80 : Ref sig .tc := ⟨.hbm, 113, rfl⟩
abbrev main_v81 : Ref sig .tc := ⟨.hbm, 114, rfl⟩
abbrev main_cst_9 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_10 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_12 : Ref sig .tc := ⟨.hbm, 155, rfl⟩
abbrev main_v119 : Ref sig .tc := ⟨.hbm, 156, rfl⟩
abbrev main_v120 : Ref sig .tc := ⟨.hbm, 157, rfl⟩
abbrev main_cst_13 : Ref sig .tc := ⟨.hbm, 158, rfl⟩
abbrev main_v121 : Ref sig .tc := ⟨.hbm, 159, rfl⟩
abbrev main_cst_14 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_15 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_16 : Ref sig .tc := ⟨.hbm, 179, rfl⟩
abbrev main_v139 : Ref sig .tc := ⟨.hbm, 180, rfl⟩
abbrev main_v140 : Ref sig .tc := ⟨.hbm, 181, rfl⟩
abbrev main_cst_17 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_18 : Ref sig .tc := ⟨.hbm, 186, rfl⟩
abbrev main_v144 : Ref sig .tc := ⟨.hbm, 187, rfl⟩
abbrev main_v145 : Ref sig .tc := ⟨.hbm, 188, rfl⟩
abbrev main_cst_19 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_call1_cst : Ref sig .tc := ⟨.hbm, 204, rfl⟩
abbrev main_call1_v0 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_20 : Ref sig .tc := ⟨.hbm, 213, rfl⟩
abbrev main_v167 : Ref sig .tc := ⟨.hbm, 214, rfl⟩
abbrev main_v168 : Ref sig .tc := ⟨.hbm, 215, rfl⟩
abbrev main_cst_21 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_22 : Ref sig .tc := ⟨.hbm, 220, rfl⟩
abbrev main_v172 : Ref sig .tc := ⟨.hbm, 221, rfl⟩
abbrev main_v173 : Ref sig .tc := ⟨.hbm, 222, rfl⟩
abbrev main_cst_23 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩

abbrev nD : Nat := 1
abbrev τ : Topo := Topo.v7x

variable {F : FTy → Type} [FloatOps F]
-- ==== Proof.Spec.lean ====
/- The mathematics both programs compute: a two-layer encoder over 8192 tokens of width 16, read at its first
   token. Everything is over the extended reals and over plain coordinates. -/
module

public import Idealize.ShloMosaic.PureOps.Ideal.Laws
public import Idealize.ShloMosaic.Lib.Pointwise

@[expose] public section

noncomputable section

namespace Cert.Spec

open Idealize.ShloMosaic

/-- The float 16, by which a row's sum is divided. -/
abbrev width : EReal := Ideal.ofBits .f32 0x41800000#32

/-- The float 8192, by which a column's sum is divided. -/
abbrev count : EReal := Ideal.ofBits .f32 0x46000000#32

/-- A dense layer `W x + b`. -/
def dense {n m : ℕ} (W : Fin n → Fin m → EReal) (b : Fin n → EReal) (x : Fin m → EReal) (i : Fin n) : EReal :=
  (∑ k, W i k * x k) + b i

/-- The mean of a row. -/
def mean (x : Fin 16 → EReal) : EReal := Ideal.div (∑ k, x k) width

/-- A row less its mean, over the root of its variance (the mean square less the squared mean). -/
def normalise (x : Fin 16 → EReal) (j : Fin 16) : EReal :=
  Ideal.div (x j - mean x) (Ideal.sqrt (mean (fun k => x k * x k) - mean x * mean x))

/-- The weights of one layer: the 48 stacked rows of the three input projections, the output projection and the two
    dense layers of the feed-forward part. -/
structure Weights where
  /-- The stacked input projections' matrix. -/
  inW : Fin 48 → Fin 16 → EReal
  /-- The stacked input projections' bias. -/
  inB : Fin 48 → EReal
  /-- The output projection's matrix. -/
  outW : Fin 16 → Fin 16 → EReal
  /-- The output projection's bias. -/
  outB : Fin 16 → EReal
  /-- The first feed-forward matrix. -/
  upW : Fin 16 → Fin 16 → EReal
  /-- The first feed-forward bias. -/
  upB : Fin 16 → EReal
  /-- The second feed-forward matrix. -/
  downW : Fin 16 → Fin 16 → EReal
  /-- The second feed-forward bias. -/
  downB : Fin 16 → EReal

/-- A layer's weights read off eight arrays, the biases of rank one. -/
abbrev ofArrays (inW : FVec Ideal ⟨2, ![48, 16]⟩ .f32) (inB : FVec Ideal ⟨1, ![48]⟩ .f32)
    (outW : FVec Ideal ⟨2, ![16, 16]⟩ .f32) (outB : FVec Ideal ⟨1, ![16]⟩ .f32)
    (upW : FVec Ideal ⟨2, ![16, 16]⟩ .f32) (upB : FVec Ideal ⟨1, ![16]⟩ .f32)
    (downW : FVec Ideal ⟨2, ![16, 16]⟩ .f32) (downB : FVec Ideal ⟨1, ![16]⟩ .f32) : Weights where
  inW i k := inW (ix2 i k)
  inB i := inB (ix1 i)
  outW i k := outW (ix2 i k)
  outB i := outB (ix1 i)
  upW i k := upW (ix2 i k)
  upB i := upB (ix1 i)
  downW i k := downW (ix2 i k)
  downB i := downB (ix1 i)

/-- Row `32 + i` of 48: where the value projection's rows stand. -/
abbrev third (i : Fin 16) : Fin 48 := ⟨32 + i.val, by omega⟩

/-- The value projection of one row. -/
def value (P : Weights) (x : Fin 16 → EReal) : Fin 16 → EReal :=
  dense (fun i => P.inW (third i)) (fun i => P.inB (third i)) x

/-- What uniform attention gives every row: the values' mean over the tokens, through the output projection. -/
def attended (P : Weights) (X : Fin 8192 → Fin 16 → EReal) : Fin 16 → EReal :=
  dense P.outW P.outB fun i => Ideal.div (∑ s, value P (X s) i) count

/-- The feed-forward part of a layer on one row. -/
def forward (P : Weights) (h : Fin 16 → EReal) : Fin 16 → EReal :=
  dense P.downW P.downB fun k => max (dense P.upW P.upB h k) 0

/-- The rest of a layer on one row `x`, the attention's result `a` given: add, normalise, feed forward, add, normalise. -/
def finish (P : Weights) (x a : Fin 16 → EReal) : Fin 16 → EReal :=
  normalise fun k => normalise (fun k => x k + a k) k + forward P (normalise fun k => x k + a k) k

/-- One layer on all rows. -/
def layer (P : Weights) (X : Fin 8192 → Fin 16 → EReal) (s : Fin 8192) : Fin 16 → EReal :=
  finish P (X s) (attended P X)

/-- A token's row of the table: the token 0, 1 or 2, and a greater one read as 2. -/
abbrev row (t : BitVec 32) : Fin 3 := ⟨min t.toNat 2, by omega⟩

/-- A token's embedding: its row of the table, and the same row negated. -/
def embed (tok : Fin 8192 → BitVec 32) (emb : Fin 3 → Fin 8 → EReal) (s : Fin 8192) (d : Fin 16) : EReal :=
  if h : d.val < 8 then emb (row (tok s)) ⟨d.val, h⟩ else -emb (row (tok s)) ⟨d.val - 8, by omega⟩

/-- The whole model: two layers on the embedded tokens, and the last dense layer on the first row. -/
def model (tok : Fin 8192 → BitVec 32) (emb : Fin 3 → Fin 8 → EReal) (P Q : Weights) (W : Fin 1 → Fin 16 → EReal)
    (b : Fin 1 → EReal) : EReal :=
  dense W b (layer Q (layer P (embed tok emb)) 0) 0

/-- The tokens are the three the table has rows for. -/
def InTable (tok : Fin 8192 → BitVec 32) : Prop := ∀ s, tok s = 0#32 ∨ tok s = 1#32 ∨ tok s = 2#32

/-- The first 16 rows of a layer's input projections, the query projection, are zero. -/
def ZeroQueries (P : Weights) : Prop :=
  (∀ (i : Fin 16) (k : Fin 16), P.inW ⟨i.val, by omega⟩ k = 0) ∧ ∀ i : Fin 16, P.inB ⟨i.val, by omega⟩ = 0

end Cert.Spec

end
-- ==== Proof.KernelValue.lean ====
/- What each part of the kernel's body computes, read at an index in the terms of Spec.lean. The kernel keeps its rows
   as columns: entry `(d, s)` of an array is coordinate `d` of row `s`. -/
module

public import proofs.«01_k».proof.Proof.Spec
public import proofs.«01_k».proof.Proof.Gen.KernelIdeal.Frame

@[expose] public section

set_option maxRecDepth 16384

noncomputable section

namespace Cert.KernelIdeal.Kernel

open Cert.KernelIdeal Cert.KernelIdeal.Gen Idealize.ShloMosaic Cert.Spec

/-- The kernel's embedded tokens: the table times the tokens' one-hot columns, over its negation. -/
def src (v1 : Vec Ideal S1x8192 .i32) (v7 : Vec Ideal S3x8 .f32) : FVec Ideal S16x8192 .f32 :=
  have v8 : FVec Ideal S8x8192 .f32 := matmul (φ₁ := .f32) dot_S3x8_S3x8192_S8x8192_0_0_1_1_n_n none v7
    (sitofp .f32 (extui 32 (cmpi .eq (iota .tc S3x8192 32 [0] iota_S3x8192_d0_w32)
      (broadcastTo S3x8192 (shapeCast S1x8192 v1 shapeCasts_S1x8192_S1x8192) broadcasts_S1x8192_S3x8192)) natLt_1_32))
    (constant S8x8192 .f32 0x00000000#32)
  concatenate S16x8192 0 [⟨S8x8192, v8⟩, ⟨S8x8192, subf (broadcast S8x8192 (Scalar.ofBits .f32 0x00000000#32)) v8⟩]
    concatenates_S8x8192_S8x8192_S16x8192_d0

/-- The one-hot sum over the table's three rows is the token's row. -/
theorem oneHot_sum (e : Fin 3 → EReal) (t : BitVec 32) (ht : t = 0#32 ∨ t = 1#32 ∨ t = 2#32) :
    ∑ x : Fin 3, e x * (FloatOps.sitofp (F := Ideal) FTy.f32
      (BitVec.setWidth 32 (IntOp.cmpi CmpIPredicate.eq (BitVec.ofNat 32 x.val) t)) : EReal) = e (row t) := by
  have h1 : (FloatOps.sitofp (F := Ideal) FTy.f32 (1#32) : EReal) = 1 := by
    show ((((1#32 : BitVec 32).toInt : ℝ)) : EReal) = 1
    simp
  have h0 : (FloatOps.sitofp (F := Ideal) FTy.f32 (0#32) : EReal) = 0 := by
    show ((((0#32 : BitVec 32).toInt : ℝ)) : EReal) = 0
    simp
  rcases ht with rfl | rfl | rfl <;>
    simp [Fin.sum_univ_three, IntOp.cmpi, row, h0, h1]

/-- The kernel's embedded tokens are the table's rows, and the same negated. -/
theorem src_apply (v1 : Vec Ideal S1x8192 .i32) (v7 : Vec Ideal S3x8 .f32) (ht : InTable fun s => v1 (ix2 0 s))
    (d : Fin 16) (s : Fin 8192) :
    src v1 v7 (ix2 d s) = embed (fun s => v1 (ix2 0 s)) (fun c d => v7 (ix2 c d)) s d := by
  pointwise [src]
  simp only [embed, zero_sub]
  split
  · exact oneHot_sum (fun c => v7 (ix2 c _)) _ (ht s)
  · exact congrArg Neg.neg (oneHot_sum (fun c => v7 (ix2 c _)) _ (ht s))

/-- The first sum of layer one: the embedded tokens plus the attention's result. -/
theorem pay2_apply (v1 : Vec Ideal S1x8192 .i32) (v7 : Vec Ideal S3x8 .f32) (v12 : Vec Ideal S16x16 .f32)
    (v14 : Vec Ideal S16x1 .f32) (v22 : Vec Ideal S16x16 .f32) (v24 : Vec Ideal S16x1 .f32) (d : Fin 16) (s : Fin 8192) :
    k0_pay2 (F := Ideal) v1 v7 v12 v14 v22 v24 (ix2 d s)
      = src v1 v7 (ix2 d s) + dense (fun i k => v22 (ix2 i k)) (fun i => v24 (ix2 i 0))
          (fun i => Ideal.div (∑ s, dense (fun i k => v12 (ix2 i k)) (fun i => v14 (ix2 i 0))
            (fun k => src v1 v7 (ix2 k s)) i) count) d := by
  have e : k0_pay2 (F := Ideal) v1 v7 v12 v14 v22 v24
      = addf (src v1 v7) (broadcastTo S16x8192 (addf (matmul dot_S16x16_S16x1_S16x1_1_0_0_1_n_n none v22
          (divf (shapeCast S16x1 (multiReduction .add [1] S16 (addf (matmul dot_S16x16_S16x8192_S16x8192_1_0_0_1_n_n none v12
            (src v1 v7) (constant S16x8192 .f32 0x00000000#32)) (broadcastTo S16x8192 (shapeCast S16x1 v14 shapeCasts_S16x1_S16x1)
              broadcasts_S16x1_S16x8192)) 0x00000000#32 reduces_S16x8192_S16 (.inl rfl) rfl) shapeCasts_S16_S16x1)
            (broadcast S16x1 (Scalar.ofBits .f32 0x46000000#32))) (constant S16x1 .f32 0x00000000#32))
          (shapeCast S16x1 v24 shapeCasts_S16x1_S16x1)) broadcasts_S16x1_S16x8192) := rfl
  rw [e]
  generalize src v1 v7 = y
  pointwise
  rfl

/-- A column's mean in layer one's first normalisation. -/
theorem pay3_apply (v1 : Vec Ideal S1x8192 .i32) (v7 : Vec Ideal S3x8 .f32) (v12 : Vec Ideal S16x16 .f32)
    (v14 : Vec Ideal S16x1 .f32) (v22 : Vec Ideal S16x16 .f32) (v24 : Vec Ideal S16x1 .f32) (s : Fin 8192) :
    k0_pay3 (F := Ideal) v1 v7 v12 v14 v22 v24 (ix2 0 s)
      = mean fun k => k0_pay2 (F := Ideal) v1 v7 v12 v14 v22 v24 (ix2 k s) := by
  unfold k0_pay3
  generalize k0_pay2 (F := Ideal) v1 v7 v12 v14 v22 v24 = y
  pointwise
  rfl

/-- A column's mean square there. -/
theorem pay4_apply (v1 : Vec Ideal S1x8192 .i32) (v7 : Vec Ideal S3x8 .f32) (v12 : Vec Ideal S16x16 .f32)
    (v14 : Vec Ideal S16x1 .f32) (v22 : Vec Ideal S16x16 .f32) (v24 : Vec Ideal S16x1 .f32) (s : Fin 8192) :
    k0_pay4 (F := Ideal) v1 v7 v12 v14 v22 v24 (ix2 0 s)
      = mean fun k => k0_pay2 (F := Ideal) v1 v7 v12 v14 v22 v24 (ix2 k s)
          * k0_pay2 (F := Ideal) v1 v7 v12 v14 v22 v24 (ix2 k s) := by
  unfold k0_pay4
  generalize k0_pay2 (F := Ideal) v1 v7 v12 v14 v22 v24 = y
  pointwise
  rfl

/-- The rest of layer one on a column, its sum `v28` and that sum's means given. -/
theorem pay5_apply (v28 : FVec Ideal S16x8192 .f32) (v32 v37 : FVec Ideal S1x8192 .f32) (v45 : Vec Ideal S16x16 .f32)
    (v47 : Vec Ideal S16x1 .f32) (v53 : Vec Ideal S16x16 .f32) (v55 : Vec Ideal S16x1 .f32) (d : Fin 16) (s : Fin 8192)
    (h : Fin 16 → EReal)
    (hh : ∀ k, h k = Ideal.div (v28 (ix2 k s) - v32 (ix2 0 s)) (Ideal.sqrt (v37 (ix2 0 s) - v32 (ix2 0 s) * v32 (ix2 0 s)))) :
    k0_pay5 (F := Ideal) v28 v32 v37 v45 v47 v53 v55 (ix2 d s)
      = normalise (fun k => h k + dense (fun i k => v53 (ix2 i k)) (fun i => v55 (ix2 i 0))
          (fun k => max (dense (fun i k => v45 (ix2 i k)) (fun i => v47 (ix2 i 0)) h k) 0) k) d := by
  pointwise [k0_pay5]
  simp only [normalise, mean, dense, hh]

/-- The value projection of layer two, before its bias. -/
theorem pay6_apply (v28 : FVec Ideal S16x8192 .f32) (v32 v37 : FVec Ideal S1x8192 .f32) (v45 : Vec Ideal S16x16 .f32)
    (v47 : Vec Ideal S16x1 .f32) (v53 : Vec Ideal S16x16 .f32) (v55 : Vec Ideal S16x1 .f32) (v76 : Vec Ideal S16x16 .f32)
    (d : Fin 16) (s : Fin 8192) :
    k0_pay6 (F := Ideal) v28 v32 v37 v45 v47 v53 v55 v76 (ix2 d s)
      = ∑ k, v76 (ix2 d k) * k0_pay5 (F := Ideal) v28 v32 v37 v45 v47 v53 v55 (ix2 k s) := by
  unfold k0_pay6
  generalize k0_pay5 (F := Ideal) v28 v32 v37 v45 v47 v53 v55 = y
  pointwise

/-- Layer two's first normalisation, on the first column. -/
theorem pay7_apply (v75 v77 : FVec Ideal S16x8192 .f32) (v78 : Vec Ideal S16x1 .f32) (v86 : Vec Ideal S16x16 .f32)
    (v88 : Vec Ideal S16x1 .f32) (d : Fin 16) :
    k0_pay7 (F := Ideal) v75 v77 v78 v86 v88 (ix2 d 0)
      = normalise (fun k => v75 (ix2 k 0) + dense (fun i k => v86 (ix2 i k)) (fun i => v88 (ix2 i 0))
          (fun i => Ideal.div (∑ s, (v77 (ix2 i s) + v78 (ix2 i 0))) count) k) d := by
  pointwise [k0_pay7]
  simp only [normalise, mean, dense]

/-- Layer two's feed-forward part on that column, before its last bias. -/
theorem pay8_apply (v75 v77 : FVec Ideal S16x8192 .f32) (v78 : Vec Ideal S16x1 .f32) (v86 : Vec Ideal S16x16 .f32)
    (v88 : Vec Ideal S16x1 .f32) (v109 : Vec Ideal S16x16 .f32) (v111 : Vec Ideal S16x1 .f32) (v116 : Vec Ideal S16x16 .f32)
    (d : Fin 16) :
    k0_pay8 (F := Ideal) v75 v77 v78 v86 v88 v109 v111 v116 (ix2 d 0)
      = ∑ k, v116 (ix2 d k) * max (dense (fun i k => v109 (ix2 i k)) (fun i => v111 (ix2 i 0))
          (fun k => k0_pay7 (F := Ideal) v75 v77 v78 v86 v88 (ix2 k 0)) k) 0 := by
  unfold k0_pay8
  generalize k0_pay7 (F := Ideal) v75 v77 v78 v86 v88 = y
  pointwise
  rfl

/-- The last normalisation and the last dense layer. -/
theorem pay1_apply (v108 v117 : FVec Ideal S16x1 .f32) (v118 : Vec Ideal S16x1 .f32) (v138 : Vec Ideal S1x16 .f32)
    (v140 : Vec Ideal S1x1 .f32) :
    k0_pay1 (F := Ideal) v108 v117 v118 v138 v140 (ix2 0 0)
      = dense (fun i k => v138 (ix2 i k)) (fun i => v140 (ix2 i 0))
          (normalise fun k => v108 (ix2 k 0) + (v117 (ix2 k 0) + v118 (ix2 k 0))) 0 := by
  pointwise [k0_pay1]
  simp only [normalise, mean, dense]

end Cert.KernelIdeal.Kernel

end
-- ==== Proof.KernelOut.lean ====
/- What the kernel's one store leaves, from the arrays the body reads: the model of Spec.lean. -/
module

public import proofs.«01_k».proof.Proof.KernelValue

@[expose] public section

set_option maxRecDepth 16384

noncomputable section

namespace Cert.KernelIdeal.Kernel

open Cert.KernelIdeal Cert.KernelIdeal.Gen Idealize.ShloMosaic Cert.Spec

/-- One layer's weights as the kernel holds them, each bias a column. -/
abbrev weights (inW : Vec Ideal S48x16 .f32) (inB : Vec Ideal S48x1 .f32) (outW : Vec Ideal S16x16 .f32)
    (outB : Vec Ideal S16x1 .f32) (upW : Vec Ideal S16x16 .f32) (upB : Vec Ideal S16x1 .f32) (downW : Vec Ideal S16x16 .f32)
    (downB : Vec Ideal S16x1 .f32) : Weights where
  inW i k := inW (ix2 i k)
  inB i := inB (ix2 i 0)
  outW i k := outW (ix2 i k)
  outB i := outB (ix2 i 0)
  upW i k := upW (ix2 i k)
  upB i := upB (ix2 i 0)
  downW i k := downW (ix2 i k)
  downB i := downB (ix2 i 0)

/-- The input projections' last 16 rows. -/
abbrev thirdRows (x : Vec Ideal S48x16 .f32) : Vec Ideal S16x16 .f32 := fun j => x (ix2 (third (j 0)) (j 1))

/-- The input biases' last 16 entries. -/
abbrev thirdColumn (x : Vec Ideal S48x1 .f32) : Vec Ideal S16x1 .f32 := fun j => x (ix2 (third (j 0)) 0)

/-- Loading the last 16 rows of the stacked projections reads those rows. -/
theorem ld_third (x : Vec Ideal S48x16 .f32) : View.ld x r0_2 = thirdRows x := by
  funext j
  idx_vars j
  pointwise
  rfl

/-- Loading the last 16 entries of the stacked biases reads those entries. -/
theorem ld_third_col (x : Vec Ideal S48x1 .f32) : View.ld x r0_3 = thirdColumn x := by
  funext j
  idx_vars j
  pointwise
  rfl

/-- The offsets of a load from an array's start. -/
theorem off_zero : (![0, 0] : Fin 2 → Nat) = fun _ => 0 := by
  funext a; match a with | ⟨0, _⟩ => rfl | ⟨1, _⟩ => rfl

/-- Loading the whole token array reads it. -/
theorem ld_tokens (x : Vec Ideal S1x8192 .i32) : View.ld x r0_0 = x := View.ld_unit_zero off_zero _ x

/-- Loading the whole table reads it. -/
theorem ld_table (x : Vec Ideal S3x8 .f32) : View.ld x r0_1 = x := View.ld_unit_zero off_zero _ x

/-- Loading a whole weight matrix reads it. -/
theorem ld_matrix (x : Vec Ideal S16x16 .f32) : View.ld x r0_4 = x := View.ld_unit_zero off_zero _ x

/-- Loading a whole bias column reads it. -/
theorem ld_column (x : Vec Ideal S16x1 .f32) : View.ld x r0_5 = x := View.ld_unit_zero off_zero _ x

/-- Loading the whole output row reads it. -/
theorem ld_line (x : Vec Ideal S1x16 .f32) : View.ld x r0_6 = x := View.ld_unit_zero off_zero _ x

/-- Loading the one output bias reads it. -/
theorem ld_cell (x : Vec Ideal S1x1 .f32) : View.ld x r0_7 = x := View.ld_unit_zero off_zero _ x

variable (x0 : Vec Ideal S1x8192 .i32) (x1 : Vec Ideal S3x8 .f32) (x2 : Vec Ideal S48x16 .f32) (x3 : Vec Ideal S48x1 .f32)
  (x4 : Vec Ideal S16x16 .f32) (x5 : Vec Ideal S16x1 .f32) (x6 : Vec Ideal S16x16 .f32) (x7 : Vec Ideal S16x1 .f32)
  (x8 : Vec Ideal S16x16 .f32) (x9 : Vec Ideal S16x1 .f32) (x10 : Vec Ideal S48x16 .f32) (x11 : Vec Ideal S48x1 .f32)
  (x12 : Vec Ideal S16x16 .f32) (x13 : Vec Ideal S16x1 .f32) (x14 : Vec Ideal S16x16 .f32) (x15 : Vec Ideal S16x1 .f32)
  (x16 : Vec Ideal S16x16 .f32) (x17 : Vec Ideal S16x1 .f32) (x18 : Vec Ideal S1x16 .f32) (x19 : Vec Ideal S1x1 .f32)

/-- The first sum of layer one, on the loaded arrays. -/
theorem pay9_apply (ht : InTable fun s => x0 (ix2 0 s)) (d : Fin 16) (s : Fin 8192) :
    k0_pay9 (F := Ideal) x0 x1 x2 x3 x4 x5 x6 x7 x8 x9 x10 x11 x12 x13 x14 x15 x16 x17 x18 x19 (ix2 d s)
      = embed (fun s => x0 (ix2 0 s)) (fun c d => x1 (ix2 c d)) s d
        + attended (weights x2 x3 x4 x5 x6 x7 x8 x9) (embed (fun s => x0 (ix2 0 s)) (fun c d => x1 (ix2 c d))) d := by
  unfold k0_pay9
  rw [ld_tokens, ld_table, ld_matrix, ld_column, ld_third, ld_third_col, pay2_apply]
  simp only [src_apply x0 x1 ht]
  rfl

/-- Layer one of the kernel is layer one of the model. -/
theorem pay12_apply (ht : InTable fun s => x0 (ix2 0 s)) (d : Fin 16) (s : Fin 8192) :
    k0_pay12 (F := Ideal) x0 x1 x2 x3 x4 x5 x6 x7 x8 x9 x10 x11 x12 x13 x14 x15 x16 x17 x18 x19 (ix2 d s)
      = layer (weights x2 x3 x4 x5 x6 x7 x8 x9) (embed (fun s => x0 (ix2 0 s)) (fun c d => x1 (ix2 c d))) s d := by
  unfold k0_pay12
  rw [ld_matrix, ld_column, ld_matrix, ld_column, pay5_apply _ _ _ _ _ _ _ _ _ _ fun k => rfl]
  have e10 : k0_pay10 (F := Ideal) x0 x1 x2 x3 x4 x5 x6 x7 x8 x9 x10 x11 x12 x13 x14 x15 x16 x17 x18 x19 (ix2 0 s)
      = mean fun k => k0_pay9 (F := Ideal) x0 x1 x2 x3 x4 x5 x6 x7 x8 x9 x10 x11 x12 x13 x14 x15 x16 x17 x18 x19 (ix2 k s) :=
    pay3_apply ..
  have e11 : k0_pay11 (F := Ideal) x0 x1 x2 x3 x4 x5 x6 x7 x8 x9 x10 x11 x12 x13 x14 x15 x16 x17 x18 x19 (ix2 0 s)
      = mean fun k => k0_pay9 (F := Ideal) x0 x1 x2 x3 x4 x5 x6 x7 x8 x9 x10 x11 x12 x13 x14 x15 x16 x17 x18 x19 (ix2 k s)
          * k0_pay9 (F := Ideal) x0 x1 x2 x3 x4 x5 x6 x7 x8 x9 x10 x11 x12 x13 x14 x15 x16 x17 x18 x19 (ix2 k s) :=
    pay4_apply ..
  simp only [e10, e11, pay9_apply _ _ _ _ _ _ _ _ _ _ _ _ _ _ _ _ _ _ _ _ ht]
  rfl

/-- The value projection of layer two, before its bias. -/
theorem pay13_apply (ht : InTable fun s => x0 (ix2 0 s)) (d : Fin 16) (s : Fin 8192) :
    k0_pay13 (F := Ideal) x0 x1 x2 x3 x4 x5 x6 x7 x8 x9 x10 x11 x12 x13 x14 x15 x16 x17 x18 x19 (ix2 d s)
      = ∑ k, x10 (ix2 (third d) k)
          * layer (weights x2 x3 x4 x5 x6 x7 x8 x9) (embed (fun s => x0 (ix2 0 s)) (fun c d => x1 (ix2 c d))) s k := by
  unfold k0_pay13
  rw [pay6_apply, ld_third]
  refine Finset.sum_congr rfl fun k _ => ?_
  exact congrArg _ (pay12_apply _ _ _ _ _ _ _ _ _ _ _ _ _ _ _ _ _ _ _ _ ht k s)

/-- Layer two on the first column and the last dense layer, the first layer's rows `X` and their value projection given. -/
theorem tail_apply (v75 v77 : FVec Ideal S16x8192 .f32) (X : Fin 8192 → Fin 16 → EReal)
    (h75 : ∀ d s, v75 (ix2 d s) = X s d) (h77 : ∀ d s, v77 (ix2 d s) = ∑ k, x10 (ix2 (third d) k) * X s k) :
    k0_pay1 (F := Ideal) (k0_pay7 v75 v77 (thirdColumn x11) x12 x13) (k0_pay8 v75 v77 (thirdColumn x11) x12 x13 x14 x15 x16)
        x17 x18 x19 (ix2 0 0)
      = dense (fun i k => x18 (ix2 i k)) (fun i => x19 (ix2 i 0)) (layer (weights x10 x11 x12 x13 x14 x15 x16 x17) X 0) 0 := by
  rw [pay1_apply]
  simp only [pay8_apply, pay7_apply, h75, h77, layer, finish, forward, attended, value]
  rfl

/-- The kernel's one store holds the model's value. -/
theorem out_apply (ht : InTable fun s => x0 (ix2 0 s)) :
    out0_20 (F := Ideal) x0 x1 x2 x3 x4 x5 x6 x7 x8 x9 x10 x11 x12 x13 x14 x15 x16 x17 x18 x19 (ix2 0 0)
      = model (fun s => x0 (ix2 0 s)) (fun c d => x1 (ix2 c d)) (weights x2 x3 x4 x5 x6 x7 x8 x9)
          (weights x10 x11 x12 x13 x14 x15 x16 x17) (fun i k => x18 (ix2 i k)) (fun i => x19 (ix2 i 0)) := by
  unfold out0_20
  rw [View.canon_unit_zero off_zero, ld_third_col, ld_line, ld_cell, ld_column, ld_column, ld_column, ld_matrix, ld_matrix,
    ld_matrix]
  exact tail_apply x10 x11 x12 x13 x14 x15 x16 x17 x18 x19 _ _ _
    (pay12_apply x0 x1 x2 x3 x4 x5 x6 x7 x8 x9 x10 x11 x12 x13 x14 x15 x16 x17 x18 x19 ht)
    (pay13_apply x0 x1 x2 x3 x4 x5 x6 x7 x8 x9 x10 x11 x12 x13 x14 x15 x16 x17 x18 x19 ht)

end Cert.KernelIdeal.Kernel

end
-- ==== Proof.KernelRun.lean ====
/- The kernel's result as a function of its argument arrays: each window's block is its whole array, the token row and
   the bias columns are reshapes of the arguments, and the one store's array is the model's value. -/
module

public import proofs.«01_k».proof.Proof.KernelOut
public import Idealize.ShloMosaic.Lib.Pipeline.ValueKit
public import Idealize.ShloMosaic.Lib.Pointwise

@[expose] public section

set_option maxRecDepth 16384

noncomputable section

namespace Cert.KernelIdeal.Kernel

open Cert.KernelIdeal Cert.KernelIdeal.Gen Idealize.ShloMosaic Idealize.ShloMosaic.TcCoe Cert.Spec

variable (m : (ℓ : Loc nD τ sig) → Buf (Elt Ideal) ℓ) (c : Dev nD) (t : Fin cfg0.N)

/-- Every window's block index is zero on every axis. -/
theorem index_zero : ∀ (w : Fin 21) (t : Fin cfg0.N) a, (cfg0.win w).index t a = 0 := by decide +kernel

/-- Window 0's block is argument 0, a row. -/
theorem block0 (i : Fin 8192) : iblk m c 0 t (ix2 0 i) = m ((c : Thread nD τ).loc main_arg0) (ix1 i) := by
  have h : V m c main_v0 = shapeCast S1x8192 (m ((c : Thread nD τ).loc main_arg0)) shapeCasts_S8192_S1x8192 := rfl
  have e : iblk m c 0 t = V m c main_v0 := by
    funext y
    unfold iblk
    refine congrArg (V m c main_v0) (funext fun a => Fin.ext ?_)
    exact (cfg0.win 0).rect_emb_val_of_index_zero t a (index_zero 0 t a) y
  rw [e, h]
  generalize m ((c : Thread nD τ).loc main_arg0) = x
  exact shapeCast_apply (s := S8192) (t := S1x8192) x _ (ix2 0 i) (ix1 i) (by
    rw [Shape.rowMajor_val_two, Shape.rowMajor_val_one]
    show i.val = 0 * 8192 + i.val
    omega)

/-- Window 1's block is argument 1. -/
theorem block1 : iblk m c 1 t = m ((c : Thread nD τ).loc main_arg1) := by
  rw [← V_main_arg1 m c]
  funext y
  unfold iblk
  refine congrArg (V m c main_arg1) (funext fun a => Fin.ext ?_)
  exact (cfg0.win 1).rect_emb_val_of_index_zero t a (index_zero 1 t a) y

/-- Window 2's block is argument 2. -/
theorem block2 : iblk m c 2 t = m ((c : Thread nD τ).loc main_arg2) := by
  rw [← V_main_arg2 m c]
  funext y
  unfold iblk
  refine congrArg (V m c main_arg2) (funext fun a => Fin.ext ?_)
  exact (cfg0.win 2).rect_emb_val_of_index_zero t a (index_zero 2 t a) y

/-- Window 3's block is argument 3, a column. -/
theorem block3 (i : Fin 48) : iblk m c 3 t (ix2 i 0) = m ((c : Thread nD τ).loc main_arg3) (ix1 i) := by
  have h : V m c main_v1 = shapeCast S48x1 (m ((c : Thread nD τ).loc main_arg3)) shapeCasts_S48_S48x1 := rfl
  have e : iblk m c 3 t = V m c main_v1 := by
    funext y
    unfold iblk
    refine congrArg (V m c main_v1) (funext fun a => Fin.ext ?_)
    exact (cfg0.win 3).rect_emb_val_of_index_zero t a (index_zero 3 t a) y
  rw [e, h]
  pointwise

/-- Window 4's block is argument 4. -/
theorem block4 : iblk m c 4 t = m ((c : Thread nD τ).loc main_arg4) := by
  rw [← V_main_arg4 m c]
  funext y
  unfold iblk
  refine congrArg (V m c main_arg4) (funext fun a => Fin.ext ?_)
  exact (cfg0.win 4).rect_emb_val_of_index_zero t a (index_zero 4 t a) y

/-- Window 5's block is argument 5, a column. -/
theorem block5 (i : Fin 16) : iblk m c 5 t (ix2 i 0) = m ((c : Thread nD τ).loc main_arg5) (ix1 i) := by
  have h : V m c main_v2 = shapeCast S16x1 (m ((c : Thread nD τ).loc main_arg5)) shapeCasts_S16_S16x1 := rfl
  have e : iblk m c 5 t = V m c main_v2 := by
    funext y
    unfold iblk
    refine congrArg (V m c main_v2) (funext fun a => Fin.ext ?_)
    exact (cfg0.win 5).rect_emb_val_of_index_zero t a (index_zero 5 t a) y
  rw [e, h]
  pointwise

/-- Window 6's block is argument 6. -/
theorem block6 : iblk m c 6 t = m ((c : Thread nD τ).loc main_arg6) := by
  rw [← V_main_arg6 m c]
  funext y
  unfold iblk
  refine congrArg (V m c main_arg6) (funext fun a => Fin.ext ?_)
  exact (cfg0.win 6).rect_emb_val_of_index_zero t a (index_zero 6 t a) y

/-- Window 7's block is argument 7, a column. -/
theorem block7 (i : Fin 16) : iblk m c 7 t (ix2 i 0) = m ((c : Thread nD τ).loc main_arg7) (ix1 i) := by
  have h : V m c main_v3 = shapeCast S16x1 (m ((c : Thread nD τ).loc main_arg7)) shapeCasts_S16_S16x1 := rfl
  have e : iblk m c 7 t = V m c main_v3 := by
    funext y
    unfold iblk
    refine congrArg (V m c main_v3) (funext fun a => Fin.ext ?_)
    exact (cfg0.win 7).rect_emb_val_of_index_zero t a (index_zero 7 t a) y
  rw [e, h]
  pointwise

/-- Window 8's block is argument 8. -/
theorem block8 : iblk m c 8 t = m ((c : Thread nD τ).loc main_arg8) := by
  rw [← V_main_arg8 m c]
  funext y
  unfold iblk
  refine congrArg (V m c main_arg8) (funext fun a => Fin.ext ?_)
  exact (cfg0.win 8).rect_emb_val_of_index_zero t a (index_zero 8 t a) y

/-- Window 9's block is argument 9, a column. -/
theorem block9 (i : Fin 16) : iblk m c 9 t (ix2 i 0) = m ((c : Thread nD τ).loc main_arg9) (ix1 i) := by
  have h : V m c main_v4 = shapeCast S16x1 (m ((c : Thread nD τ).loc main_arg9)) shapeCasts_S16_S16x1 := rfl
  have e : iblk m c 9 t = V m c main_v4 := by
    funext y
    unfold iblk
    refine congrArg (V m c main_v4) (funext fun a => Fin.ext ?_)
    exact (cfg0.win 9).rect_emb_val_of_index_zero t a (index_zero 9 t a) y
  rw [e, h]
  pointwise

/-- Window 10's block is argument 10. -/
theorem block10 : iblk m c 10 t = m ((c : Thread nD τ).loc main_arg10) := by
  rw [← V_main_arg10 m c]
  funext y
  unfold iblk
  refine congrArg (V m c main_arg10) (funext fun a => Fin.ext ?_)
  exact (cfg0.win 10).rect_emb_val_of_index_zero t a (index_zero 10 t a) y

/-- Window 11's block is argument 11, a column. -/
theorem block11 (i : Fin 48) : iblk m c 11 t (ix2 i 0) = m ((c : Thread nD τ).loc main_arg11) (ix1 i) := by
  have h : V m c main_v5 = shapeCast S48x1 (m ((c : Thread nD τ).loc main_arg11)) shapeCasts_S48_S48x1 := rfl
  have e : iblk m c 11 t = V m c main_v5 := by
    funext y
    unfold iblk
    refine congrArg (V m c main_v5) (funext fun a => Fin.ext ?_)
    exact (cfg0.win 11).rect_emb_val_of_index_zero t a (index_zero 11 t a) y
  rw [e, h]
  pointwise

/-- Window 12's block is argument 12. -/
theorem block12 : iblk m c 12 t = m ((c : Thread nD τ).loc main_arg12) := by
  rw [← V_main_arg12 m c]
  funext y
  unfold iblk
  refine congrArg (V m c main_arg12) (funext fun a => Fin.ext ?_)
  exact (cfg0.win 12).rect_emb_val_of_index_zero t a (index_zero 12 t a) y

/-- Window 13's block is argument 13, a column. -/
theorem block13 (i : Fin 16) : iblk m c 13 t (ix2 i 0) = m ((c : Thread nD τ).loc main_arg13) (ix1 i) := by
  have h : V m c main_v6 = shapeCast S16x1 (m ((c : Thread nD τ).loc main_arg13)) shapeCasts_S16_S16x1 := rfl
  have e : iblk m c 13 t = V m c main_v6 := by
    funext y
    unfold iblk
    refine congrArg (V m c main_v6) (funext fun a => Fin.ext ?_)
    exact (cfg0.win 13).rect_emb_val_of_index_zero t a (index_zero 13 t a) y
  rw [e, h]
  pointwise

/-- Window 14's block is argument 14. -/
theorem block14 : iblk m c 14 t = m ((c : Thread nD τ).loc main_arg14) := by
  rw [← V_main_arg14 m c]
  funext y
  unfold iblk
  refine congrArg (V m c main_arg14) (funext fun a => Fin.ext ?_)
  exact (cfg0.win 14).rect_emb_val_of_index_zero t a (index_zero 14 t a) y

/-- Window 15's block is argument 15, a column. -/
theorem block15 (i : Fin 16) : iblk m c 15 t (ix2 i 0) = m ((c : Thread nD τ).loc main_arg15) (ix1 i) := by
  have h : V m c main_v7 = shapeCast S16x1 (m ((c : Thread nD τ).loc main_arg15)) shapeCasts_S16_S16x1 := rfl
  have e : iblk m c 15 t = V m c main_v7 := by
    funext y
    unfold iblk
    refine congrArg (V m c main_v7) (funext fun a => Fin.ext ?_)
    exact (cfg0.win 15).rect_emb_val_of_index_zero t a (index_zero 15 t a) y
  rw [e, h]
  pointwise

/-- Window 16's block is argument 16. -/
theorem block16 : iblk m c 16 t = m ((c : Thread nD τ).loc main_arg16) := by
  rw [← V_main_arg16 m c]
  funext y
  unfold iblk
  refine congrArg (V m c main_arg16) (funext fun a => Fin.ext ?_)
  exact (cfg0.win 16).rect_emb_val_of_index_zero t a (index_zero 16 t a) y

/-- Window 17's block is argument 17, a column. -/
theorem block17 (i : Fin 16) : iblk m c 17 t (ix2 i 0) = m ((c : Thread nD τ).loc main_arg17) (ix1 i) := by
  have h : V m c main_v8 = shapeCast S16x1 (m ((c : Thread nD τ).loc main_arg17)) shapeCasts_S16_S16x1 := rfl
  have e : iblk m c 17 t = V m c main_v8 := by
    funext y
    unfold iblk
    refine congrArg (V m c main_v8) (funext fun a => Fin.ext ?_)
    exact (cfg0.win 17).rect_emb_val_of_index_zero t a (index_zero 17 t a) y
  rw [e, h]
  pointwise

/-- Window 18's block is argument 18. -/
theorem block18 : iblk m c 18 t = m ((c : Thread nD τ).loc main_arg18) := by
  rw [← V_main_arg18 m c]
  funext y
  unfold iblk
  refine congrArg (V m c main_arg18) (funext fun a => Fin.ext ?_)
  exact (cfg0.win 18).rect_emb_val_of_index_zero t a (index_zero 18 t a) y

/-- Window 19's block is argument 19, a column. -/
theorem block19 (i : Fin 1) : iblk m c 19 t (ix2 i 0) = m ((c : Thread nD τ).loc main_arg19) (ix1 i) := by
  have h : V m c main_v9 = shapeCast S1x1 (m ((c : Thread nD τ).loc main_arg19)) shapeCasts_S1_S1x1 := rfl
  have e : iblk m c 19 t = V m c main_v9 := by
    funext y
    unfold iblk
    refine congrArg (V m c main_v9) (funext fun a => Fin.ext ?_)
    exact (cfg0.win 19).rect_emb_val_of_index_zero t a (index_zero 19 t a) y
  rw [e, h]
  pointwise
  exact congrArg (fun j => m ((c : Thread nD τ).loc main_arg19) (ix1 j)) (Subsingleton.elim _ _)

/-- The model's value at the argument arrays of device `c`. -/
def answer : EReal :=
  model (fun s => m ((c : Thread nD τ).loc main_arg0) (ix1 s)) (fun k d => m ((c : Thread nD τ).loc main_arg1) (ix2 k d))
    (ofArrays (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)))
    (ofArrays (m ((c : Thread nD τ).loc main_arg10)) (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16)) (m ((c : Thread nD τ).loc main_arg17)))
    (fun i k => m ((c : Thread nD τ).loc main_arg18) (ix2 i k)) (fun i => m ((c : Thread nD τ).loc main_arg19) (ix1 i))

/-- The output window's block after the body holds the model's value. -/
theorem after_apply (ht : InTable fun s => m ((c : Thread nD τ).loc main_arg0) (ix1 s)) :
    (dats m 0 c).after 20 t (ix2 0 0) = answer m c := by
  rw [after0_20]
  have h0 := block0 m c t
  have ht' : InTable fun s => iblk m c 0 t (ix2 0 s) := fun s => by
    show iblk m c 0 t (ix2 0 s) = 0#32 ∨ iblk m c 0 t (ix2 0 s) = 1#32 ∨ iblk m c 0 t (ix2 0 s) = 2#32
    rw [h0 s]; exact ht s
  rw [out_apply _ _ _ _ _ _ _ _ _ _ _ _ _ _ _ _ _ _ _ _ ht']
  unfold answer
  simp only [weights, block0, block1, block2, block3, block4, block5, block6, block7, block8, block9, block10, block11, block12, block13, block14, block15, block16, block17, block18, block19]

/-- The output array after the run holds the model's value. -/
theorem result_array (ht : InTable fun s => m ((c : Thread nD τ).loc main_arg0) (ix1 s)) :
    (dats m 0 c).arrAt 20 (cfgs 0).N = fun _ => answer m c := by
  refine (dats m 0 c).arrAt_eq_of_covers 20 _ (by decide +kernel) fun t hf y => ?_
  blk_simp
  have hy : y = (ix2 0 0 : S1x1.Idx) := funext fun a => Fin.ext (by
    match a with
    | ⟨0, _⟩ => exact Nat.lt_one_iff.mp (y 0).isLt
    | ⟨1, _⟩ => exact Nat.lt_one_iff.mp (y 1).isLt)
  exact (congrArg ((dats m 0 c).after 20 t) hy).trans (after_apply m c t ht)

end Cert.KernelIdeal.Kernel

end
-- ==== Proof.Softmax.lean ====
/- Softmax of rows of equal scores: every weight is one over the number of tokens, and a weighted sum with those
   weights is a mean. -/
module

public import proofs.«01_k».proof.Proof.Spec

@[expose] public section

noncomputable section

namespace Cert.Spec

open Idealize.ShloMosaic

/-- The float 8192 is the real number 8192. -/
theorem count_eq : count = ((8192 : ℝ) : EReal) := by
  simp [Ideal.ofBits, Ideal.ieee, -EReal.coe_mul]; norm_num

/-- The float by which the scores are scaled is the real number 4. -/
theorem scale_eq : Ideal.ofBits .f32 0x40800000#32 = ((4 : ℝ) : EReal) := by
  simp [Ideal.ofBits, Ideal.ieee, -EReal.coe_mul]; norm_num

/-- The float from which the scores' maximum starts is minus infinity. -/
theorem bottom_eq : Ideal.ofBits .f32 0xFF800000#32 = (⊥ : EReal) := by
  simp [Ideal.ofBits, Ideal.ieee]

/-- A zero score stays zero when scaled. -/
theorem div_scale_zero : Ideal.div 0 (Ideal.ofBits .f32 0x40800000#32) = 0 := by
  rw [scale_eq, Ideal.div_coe (by norm_num), zero_mul]

/-- The exponential of zero is one. -/
theorem exp_zero : Ideal.exp 0 = 1 := by
  show ((Real.exp 0 : ℝ) : EReal) = 1
  simp

/-- As many ones as tokens add up to their number. -/
theorem sum_ones : ∑ _k : Fin 8192, (1 : EReal) = ((8192 : ℝ) : EReal) := by
  rw [Finset.sum_const, Finset.card_univ, Fintype.card_fin, EReal.nsmul_eq_mul, mul_one]
  norm_cast

/-- A constant factor that is not negative comes out of a finite sum of extended reals. -/
theorem mul_sum_coe {ι : Type} (s : Finset ι) (r : ℝ) (hr : 0 ≤ r) (f : ι → EReal) :
    ∑ k ∈ s, (r : EReal) * f k = (r : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

/-- Uniform weights turn a weighted sum into a mean. -/
theorem uniform_sum (v : Fin 8192 → EReal) :
    ∑ k, Ideal.div 1 (∑ _k : Fin 8192, (1 : EReal)) * v k = Ideal.div (∑ k, v k) count := by
  rw [sum_ones, count_eq, Ideal.div_coe (by norm_num), Ideal.div_coe (by norm_num), one_mul,
    mul_sum_coe _ _ (by norm_num), mul_comm]

/-- The maximum of a row of zeros is zero. -/
theorem fold_max_zero : (Finset.univ : Finset (Fin 8192)).fold max (⊥ : EReal) (fun _ => 0) = 0 := by
  refine le_antisymm ?_ ?_
  · exact (Finset.fold_max_le _).mpr ⟨bot_le, fun _ _ => le_refl _⟩
  · exact (Finset.le_fold_max _).mpr (Or.inr ⟨0, Finset.mem_univ _, le_refl _⟩)

end Cert.Spec

end
-- ==== Proof.RefValue.lean ====
/- The reference's operations in groups, each read at an index in the terms of Spec.lean: a dense layer on every row,
   the normalisation of every row, attention with zero queries, and a whole layer. -/
module

public import proofs.«01_k».proof.Proof.Softmax
public import proofs.«01_k».proof.Proof.Gen.ReferenceIdeal.Read

@[expose] public section

set_option maxRecDepth 16384

noncomputable section

namespace Cert.ReferenceIdeal.Ref

open Cert.ReferenceIdeal Cert.ReferenceIdeal.Gen Idealize.ShloMosaic Cert.Spec

/-- A dense layer on every row: the rows times the transposed matrix, plus the bias along each row. -/
def denseRows (x : FVec Ideal S8192x16 .f32) (W : FVec Ideal S16x16 .f32) (b : FVec Ideal S16 .f32) :
    FVec Ideal S8192x16 .f32 :=
  addf (Host.dotGeneral dot_S8192x16_S16x16_S8192x16_1_0_0_1_n_n none x (transpose S16x16 [1, 0] W transposes_S16x16_S16x16_1_0))
    (broadcastInDim S8192x16 ![0, 1] bcast_S1x16_S8192x16_0_1 (broadcastInDim S1x16 ![1] bcast_S16_S1x16_1 b))

/-- Each row of the dense layer is the dense layer on that row. -/
theorem denseRows_apply (x : FVec Ideal S8192x16 .f32) (W : FVec Ideal S16x16 .f32) (b : FVec Ideal S16 .f32)
    (s : Fin 8192) (d : Fin 16) :
    denseRows x W b (ix2 s d) = dense (fun i k => W (ix2 i k)) (fun i => b (ix1 i)) (fun k => x (ix2 s k)) d := by
  pointwise [denseRows]
  exact congrArg (· + b (ix1 d)) (Finset.sum_congr rfl fun k _ => mul_comm _ _)

/-- A mean over each row's 16 coordinates. -/
def meanRows (x : FVec Ideal S8192x16 .f32) : FVec Ideal S8192x1 .f32 :=
  Host.divf (broadcastInDim S8192x1 ![0] bcast_S8192_S8192x1_0
      (Host.reduceAdd x (constant S_ .f32 0x00000000#32) reducesTo_S8192x16_S8192_d1 h_S_))
    (broadcastInDim S8192x1 ![] bcast_S_S8192x1 (constant S_ .f32 0x41800000#32))

/-- The mean over a row. -/
theorem meanRows_apply (x : FVec Ideal S8192x16 .f32) (s : Fin 8192) :
    meanRows x (ix2 s 0) = mean fun k => x (ix2 s k) := by
  pointwise [meanRows]
  rfl

/-- The normalisation of every row. -/
def normRows (x : FVec Ideal S8192x16 .f32) : FVec Ideal S8192x16 .f32 :=
  Host.divf (subf x (broadcastInDim S8192x16 ![0, 1] bcast_S8192x1_S8192x16_0_1 (meanRows x)))
    (broadcastInDim S8192x16 ![0, 1] bcast_S8192x1_S8192x16_0_1
      (Host.sqrt (subf (meanRows (mulf x x)) (mulf (meanRows x) (meanRows x)))))

/-- Each row is normalised by itself. -/
theorem normRows_apply (x : FVec Ideal S8192x16 .f32) (s : Fin 8192) (d : Fin 16) :
    normRows x (ix2 s d) = normalise (fun k => x (ix2 s k)) d := by
  have e := meanRows_apply (mulf x x) s
  pointwise [normRows]
  rw [meanRows_apply, e]
  rfl

/-- The greatest score of a row, in any order. -/
theorem maxRows_apply (y : FVec Ideal S8192x8192 .f32) (c : FVec Ideal S_ .f32) (s : Fin 8192) :
    Host.reduce (FloatOps.maximumf (F := Ideal) (φ := .f32)) y c reducesTo_S8192x8192_S8192_d1 h_S_ (ix1 s)
      = (Finset.univ : Finset (Fin 8192)).fold max (c (Shape.Idx.first h_S_)) (fun k => y (ix2 s k)) := by
  rw [Host.reduce_eq_fold, Shape.ReducesTo.fold_fiber_r2_a1]
  rfl

/-- The scores less a bound of their rows, exponentiated. -/
def expRows (y : FVec Ideal S8192x8192 .f32) (m : FVec Ideal S8192 .f32) : FVec Ideal S8192x8192 .f32 :=
  Host.exp (subf y (broadcastInDim S8192x8192 ![0, 1] bcast_S8192x1_S8192x8192_0_1
    (broadcastInDim S8192x1 ![0] bcast_S8192_S8192x1_0 (maximumf (broadcastInDim S8192 ![] bcast_S_S8192 (constant S_ .f32 0xFF800000#32)) m))))

/-- An entry of the exponentials. -/
theorem expRows_apply (y : FVec Ideal S8192x8192 .f32) (m : FVec Ideal S8192 .f32) (s t : Fin 8192) :
    expRows y m (ix2 s t) = Ideal.exp (y (ix2 s t) - max (Ideal.ofBits .f32 0xFF800000#32) (m (ix1 s))) := by
  pointwise [expRows]

/-- Rows divided by their sums. -/
def shareRows (e : FVec Ideal S8192x8192 .f32) : FVec Ideal S8192x8192 .f32 :=
  Host.divf e (broadcastInDim S8192x8192 ![0, 1] bcast_S8192x1_S8192x8192_0_1 (broadcastInDim S8192x1 ![0] bcast_S8192_S8192x1_0
    (Host.reduceAdd e (constant S_ .f32 0x00000000#32) reducesTo_S8192x8192_S8192_d1 h_S_)))

/-- An entry over its row's sum. -/
theorem shareRows_apply (e : FVec Ideal S8192x8192 .f32) (s t : Fin 8192) :
    shareRows e (ix2 s t) = Ideal.div (e (ix2 s t)) (∑ x, e (ix2 s x)) := by
  pointwise [shareRows]

/-- The attention's weights from the scaled scores: softmax along each row. -/
def softmaxRows (y : FVec Ideal S8192x8192 .f32) : FVec Ideal S8192x8192 .f32 :=
  shareRows (expRows y (Host.reduce FloatOps.maximumf y (constant S_ .f32 0xFF800000#32) reducesTo_S8192x8192_S8192_d1 h_S_))

/-- The exponential of a score less the greatest of its row. -/
def expScore (y : Fin 8192 → EReal) (t : Fin 8192) : EReal :=
  Ideal.exp (y t - max (Ideal.ofBits .f32 0xFF800000#32)
    (Finset.univ.fold max (Ideal.ofBits .f32 0xFF800000#32) y))

/-- A weight is its score's exponential over its row's sum of exponentials. -/
theorem softmaxRows_apply (y : FVec Ideal S8192x8192 .f32) (s t : Fin 8192) :
    softmaxRows y (ix2 s t)
      = Ideal.div (expScore (fun k => y (ix2 s k)) t) (∑ x, expScore (fun k => y (ix2 s k)) x) := by
  simp only [softmaxRows, shareRows_apply, expRows_apply, maxRows_apply]
  rfl

/-- Rows of zero scores get uniform weights. -/
theorem softmaxRows_zero (y : FVec Ideal S8192x8192 .f32) (hy : ∀ s t, y (ix2 s t) = (0 : EReal)) (s t : Fin 8192) :
    softmaxRows y (ix2 s t) = Ideal.div 1 (∑ _k : Fin 8192, (1 : EReal)) := by
  have h : ∀ x, expScore (fun k => y (ix2 s k)) x = 1 := fun x => by
    have e : (fun k => y (ix2 s k)) = fun _ => (0 : EReal) := funext fun k => hy s k
    unfold expScore
    rw [e, bottom_eq, fold_max_zero, max_eq_right bot_le, sub_zero, exp_zero]
  rw [softmaxRows_apply, h, Finset.sum_congr rfl fun x _ => h x]

/-- Attention: the softmax of the scaled scores, times the values. -/
def attention (q k v : FVec Ideal S8192x16 .f32) : FVec Ideal S8192x16 .f32 :=
  Host.dotGeneral dot_S8192x8192_S8192x16_S8192x16_1_0_0_1_n_n none
    (softmaxRows (Host.divf (Host.dotGeneral dot_S8192x16_S16x8192_S8192x8192_1_0_0_1_n_n none q
        (transpose S16x8192 [1, 0] k transposes_S8192x16_S16x8192_1_0))
      (broadcastInDim S8192x8192 ![] bcast_S_S8192x8192 (constant S_ .f32 0x40800000#32)))) v

/-- With zero queries every row attends to the values' mean. -/
theorem attention_apply (q k v : FVec Ideal S8192x16 .f32) (hq : ∀ s d, q (ix2 s d) = (0 : EReal)) (s : Fin 8192) (d : Fin 16) :
    attention q k v (ix2 s d) = Ideal.div (∑ t, v (ix2 t d)) count := by
  have e : ∀ a b, Host.divf (Host.dotGeneral dot_S8192x16_S16x8192_S8192x8192_1_0_0_1_n_n none q
        (transpose S16x8192 [1, 0] k transposes_S8192x16_S16x8192_1_0))
      (broadcastInDim S8192x8192 ![] bcast_S_S8192x8192 (constant S_ .f32 0x40800000#32)) (ix2 a b) = (0 : EReal) := by
    intro a b
    pointwise
    simp only [hq, zero_mul, Finset.sum_const_zero]
    exact div_scale_zero
  have hw := softmaxRows_zero _ e
  unfold attention
  generalize softmaxRows _ = w at hw ⊢
  pointwise
  simp only [hw]
  exact uniform_sum _

/-- The maximum of every entry with zero. -/
def reluRows (x : FVec Ideal S8192x16 .f32) : FVec Ideal S8192x16 .f32 :=
  maximumf x (broadcastInDim S8192x16 ![] bcast_S_S8192x16 (constant S_ .f32 0x00000000#32))

/-- An entry's maximum with zero. -/
theorem reluRows_apply (x : FVec Ideal S8192x16 .f32) (s : Fin 8192) (d : Fin 16) :
    reluRows x (ix2 s d) = max (x (ix2 s d) : EReal) 0 := by
  pointwise [reluRows]

/-- A whole layer on all rows. -/
def layerRows (x : FVec Ideal S8192x16 .f32) (inW : FVec Ideal S48x16 .f32) (inB : FVec Ideal S48 .f32)
    (outW : FVec Ideal S16x16 .f32) (outB : FVec Ideal S16 .f32) (upW : FVec Ideal S16x16 .f32) (upB : FVec Ideal S16 .f32)
    (downW : FVec Ideal S16x16 .f32) (downB : FVec Ideal S16 .f32) : FVec Ideal S8192x16 .f32 :=
  have h : FVec Ideal S8192x16 .f32 := normRows (addf x (denseRows
    (attention
      (denseRows x (extractStridedSlice S16x16 ![0, 0] inW slices_S48x16_S16x16_0_0) (extractStridedSlice S16 ![0] inB slices_S48_S16_0))
      (denseRows x (extractStridedSlice S16x16 ![16, 0] inW slices_S48x16_S16x16_16_0) (extractStridedSlice S16 ![16] inB slices_S48_S16_16))
      (denseRows x (extractStridedSlice S16x16 ![32, 0] inW slices_S48x16_S16x16_32_0) (extractStridedSlice S16 ![32] inB slices_S48_S16_32)))
    outW outB))
  normRows (addf h (denseRows (reluRows (denseRows h upW upB)) downW downB))

/-- A sum of two arrays, entry by entry. -/
theorem addf_at (x y : FVec Ideal S8192x16 .f32) (s : Fin 8192) (d : Fin 16) :
    addf x y (ix2 s d) = (x (ix2 s d) + y (ix2 s d) : EReal) := rfl

/-- Rows cut out of a dense layer's stacked weights, from row `o` on. -/
theorem denseRows_slice (x : FVec Ideal S8192x16 .f32) (W : FVec Ideal S48x16 .f32) (b : FVec Ideal S48 .f32) (o : ℕ) (ho : o + 16 ≤ 48)
    (h : S48x16.Slices ![o, 0] S16x16) (h' : S48.Slices ![o] S16) (s : Fin 8192) (d : Fin 16) :
    denseRows x (extractStridedSlice S16x16 ![o, 0] W h) (extractStridedSlice S16 ![o] b h') (ix2 s d)
      = dense (fun (i : Fin 16) k => W (ix2 ⟨o + i.val, by omega⟩ k)) (fun i => b (ix1 ⟨o + i.val, by omega⟩)) (fun k => x (ix2 s k)) d := by
  have e : ∀ i k, extractStridedSlice S16x16 ![o, 0] W h (ix2 i k) = W (ix2 ⟨o + i.val, by omega⟩ k) := fun i k => by
    pointwise
  have e' : ∀ i, extractStridedSlice S16 ![o] b h' (ix1 i) = b (ix1 ⟨o + i.val, by omega⟩) := fun i => by
    pointwise
  rw [denseRows_apply]
  simp only [e, e']

/-- With a zero query projection a whole layer is the specified one, on every row. -/
theorem layerRows_apply (x : FVec Ideal S8192x16 .f32) (inW : FVec Ideal S48x16 .f32) (inB : FVec Ideal S48 .f32)
    (outW : FVec Ideal S16x16 .f32) (outB : FVec Ideal S16 .f32) (upW : FVec Ideal S16x16 .f32) (upB : FVec Ideal S16 .f32)
    (downW : FVec Ideal S16x16 .f32) (downB : FVec Ideal S16 .f32)
    (hz : ZeroQueries (ofArrays inW inB outW outB upW upB downW downB)) (s : Fin 8192) (d : Fin 16) :
    layerRows x inW inB outW outB upW upB downW downB (ix2 s d)
      = layer (ofArrays inW inB outW outB upW upB downW downB) (fun s k => x (ix2 s k)) s d := by
  have hq : ∀ s d, denseRows x (extractStridedSlice S16x16 ![0, 0] inW slices_S48x16_S16x16_0_0)
      (extractStridedSlice S16 ![0] inB slices_S48_S16_0) (ix2 s d) = (0 : EReal) := fun s d => by
    rw [denseRows_slice x inW inB 0 (by omega)]
    simp only [dense, zero_add]
    have h1 : ∀ k : Fin 16, inW (ix2 ⟨d.val, by omega⟩ k) = (0 : EReal) := hz.1 d
    have h2 : inB (ix1 ⟨d.val, by omega⟩) = (0 : EReal) := hz.2 d
    simp only [h1, h2, zero_mul, Finset.sum_const_zero, add_zero]
  have ha := fun s d => attention_apply _
    (denseRows x (extractStridedSlice S16x16 ![16, 0] inW slices_S48x16_S16x16_16_0) (extractStridedSlice S16 ![16] inB slices_S48_S16_16))
    (denseRows x (extractStridedSlice S16x16 ![32, 0] inW slices_S48x16_S16x16_32_0) (extractStridedSlice S16 ![32] inB slices_S48_S16_32))
    hq s d
  have hv := denseRows_slice x inW inB 32 (by omega) slices_S48x16_S16x16_32_0 slices_S48_S16_32
  unfold layerRows
  generalize attention _ _ _ = A at ha ⊢
  simp only [normRows_apply, addf_at, denseRows_apply, reluRows_apply, ha, hv]
  rfl

end Cert.ReferenceIdeal.Ref

end
-- ==== Proof.RefModel.lean ====
/- The whole reference as the model: the embedding of the tokens, the two layers, and the last dense layer on the
   first row. -/
module

public import proofs.«01_k».proof.Proof.RefValue
public import Idealize.ShloMosaic.Lib.Routing.Ops

@[expose] public section

set_option maxRecDepth 16384

noncomputable section

namespace Cert.ReferenceIdeal.Ref

open Cert.ReferenceIdeal Cert.ReferenceIdeal.Gen Cert.ReferenceIdeal.Read Idealize.ShloMosaic Cert.Spec

/-- Counting a negative index from the end leaves a token of the table as it is. -/
theorem wrapped_apply (x0 : IVec S8192 32) (ht : InTable fun s => x0 (ix1 s)) (s : Fin 8192) :
    val_main_v5 (F := Ideal) x0 (ix2 s 0) = BitVec.ofNat 32 (row (x0 (ix1 s))).val := by
  have h := ht s
  rw [val_main_v5_apply, val_main_v4_apply, val_main_v1_apply, val_main_v0_apply, val_main_c_apply]
  have e : idx_main_v5 (ix2 s 0) = ix1 s := by
    funext a; match a with | ⟨0, _⟩ => rfl
  rw [e]
  dsimp only at h
  rcases h with h | h | h <;> rw [h] <;> rfl

/-- A token's row of the table. -/
theorem gathered_apply (x0 : IVec S8192 32) (x1 : FVec Ideal S3x8 .f32) (ht : InTable fun s => x0 (ix1 s)) (s : Fin 8192) (c : Fin 8) :
    val_main_v6 (F := Ideal) x0 x1 (ix2 s c) = x1 (ix2 (row (x0 (ix1 s))) c) := by
  unfold val_main_v6
  exact Routing.gather_row gather_S3x8_S8192x1_S8192x8_1_0_n_n_0_1_18 rfl rfl rfl rfl rfl x1 _ s c (row (x0 (ix1 s)))
    (wrapped_apply x0 ht s) (by norm_num)

/-- The embedding: a token's row of the table, and the row negated. -/
theorem embedded_apply (x0 : IVec S8192 32) (x1 : FVec Ideal S3x8 .f32) (ht : InTable fun s => x0 (ix1 s)) (s : Fin 8192) (d : Fin 16) :
    val_main_v8 (F := Ideal) x0 x1 (ix2 s d) = embed (fun s => x0 (ix1 s)) (fun c d => x1 (ix2 c d)) s d := by
  have h6 := gathered_apply x0 x1 ht s
  have h7 : ∀ c, val_main_v7 (F := Ideal) x0 x1 (ix2 s c) = -(x1 (ix2 (row (x0 (ix1 s))) c) : EReal) := fun c => by
    rw [val_main_v7_apply, h6]
    rfl
  unfold val_main_v8
  generalize val_main_v6 (F := Ideal) x0 x1 = y at h6 ⊢
  generalize val_main_v7 (F := Ideal) x0 x1 = z at h7 ⊢
  pointwise
  unfold embed
  by_cases h : d.val < 8
  · rw [dif_pos h, dif_pos h, h6]
  · rw [dif_neg h, dif_neg h, h7]

section Layers

variable (x0 : IVec S8192 32) (x1 : FVec Ideal S3x8 .f32) (x2 : FVec Ideal S48x16 .f32) (x3 : FVec Ideal S48 .f32)
  (x4 : FVec Ideal S16x16 .f32) (x5 : FVec Ideal S16 .f32) (x6 : FVec Ideal S16x16 .f32) (x7 : FVec Ideal S16 .f32)
  (x8 : FVec Ideal S16x16 .f32) (x9 : FVec Ideal S16 .f32) (x10 : FVec Ideal S48x16 .f32) (x11 : FVec Ideal S48 .f32)
  (x12 : FVec Ideal S16x16 .f32) (x13 : FVec Ideal S16 .f32) (x14 : FVec Ideal S16x16 .f32) (x15 : FVec Ideal S16 .f32)
  (x16 : FVec Ideal S16x16 .f32) (x17 : FVec Ideal S16 .f32) (x18 : FVec Ideal S1x16 .f32) (x19 : FVec Ideal S1 .f32)

/-- The first layer's scaled scores' softmax times the values is the attention of its three projections. -/
theorem attention_one : val_main_v45 (F := Ideal) x0 x1 x2 x3
    = attention (val_main_v19 (F := Ideal) x0 x1 x2 x3) (val_main_v24 (F := Ideal) x0 x1 x2 x3) (val_main_v29 (F := Ideal) x0 x1 x2 x3) := rfl

/-- The first half of the first layer. -/
theorem half_one : val_main_v67 (F := Ideal) x0 x1 x2 x3 x4 x5
    = normRows (addf (val_main_v8 (F := Ideal) x0 x1) (denseRows (val_main_v45 (F := Ideal) x0 x1 x2 x3) x4 x5)) := rfl

/-- The second half of the first layer. -/
theorem rest_one : val_main_v95 (F := Ideal) x0 x1 x2 x3 x4 x5 x6 x7 x8 x9
    = normRows (addf (val_main_v67 (F := Ideal) x0 x1 x2 x3 x4 x5)
      (denseRows (reluRows (denseRows (val_main_v67 (F := Ideal) x0 x1 x2 x3 x4 x5) x6 x7)) x8 x9)) := rfl

/-- The first layer. -/
theorem layer_one : val_main_v95 (F := Ideal) x0 x1 x2 x3 x4 x5 x6 x7 x8 x9
    = layerRows (val_main_v8 (F := Ideal) x0 x1) x2 x3 x4 x5 x6 x7 x8 x9 := by
  rw [rest_one, half_one, attention_one]
  rfl

/-- The second layer's attention. -/
theorem attention_two : val_main_v132 (F := Ideal) x0 x1 x2 x3 x4 x5 x6 x7 x8 x9 x10 x11
    = attention (val_main_v106 (F := Ideal) x0 x1 x2 x3 x4 x5 x6 x7 x8 x9 x10 x11)
        (val_main_v111 (F := Ideal) x0 x1 x2 x3 x4 x5 x6 x7 x8 x9 x10 x11)
        (val_main_v116 (F := Ideal) x0 x1 x2 x3 x4 x5 x6 x7 x8 x9 x10 x11) := rfl

/-- The first half of the second layer. -/
theorem half_two : val_main_v154 (F := Ideal) x0 x1 x2 x3 x4 x5 x6 x7 x8 x9 x10 x11 x12 x13
    = normRows (addf (val_main_v95 (F := Ideal) x0 x1 x2 x3 x4 x5 x6 x7 x8 x9)
        (denseRows (val_main_v132 (F := Ideal) x0 x1 x2 x3 x4 x5 x6 x7 x8 x9 x10 x11) x12 x13)) := rfl

/-- The second half of the second layer. -/
theorem rest_two : val_main_v182 (F := Ideal) x0 x1 x2 x3 x4 x5 x6 x7 x8 x9 x10 x11 x12 x13 x14 x15 x16 x17
    = normRows (addf (val_main_v154 (F := Ideal) x0 x1 x2 x3 x4 x5 x6 x7 x8 x9 x10 x11 x12 x13)
      (denseRows (reluRows (denseRows (val_main_v154 (F := Ideal) x0 x1 x2 x3 x4 x5 x6 x7 x8 x9 x10 x11 x12 x13) x14 x15)) x16 x17)) := rfl

/-- The second layer. -/
theorem layer_two : val_main_v182 (F := Ideal) x0 x1 x2 x3 x4 x5 x6 x7 x8 x9 x10 x11 x12 x13 x14 x15 x16 x17
    = layerRows (val_main_v95 (F := Ideal) x0 x1 x2 x3 x4 x5 x6 x7 x8 x9) x10 x11 x12 x13 x14 x15 x16 x17 := by
  rw [rest_two, half_two, attention_two]
  rfl

/-- The reference's result is the model of its arguments. -/
theorem result_apply (ht : InTable fun s => x0 (ix1 s)) (hP : ZeroQueries (ofArrays x2 x3 x4 x5 x6 x7 x8 x9))
    (hQ : ZeroQueries (ofArrays x10 x11 x12 x13 x14 x15 x16 x17)) :
    val_main_v187 (F := Ideal) x0 x1 x2 x3 x4 x5 x6 x7 x8 x9 x10 x11 x12 x13 x14 x15 x16 x17 x18 x19 (ix1 0)
      = model (fun s => x0 (ix1 s)) (fun c d => x1 (ix2 c d)) (ofArrays x2 x3 x4 x5 x6 x7 x8 x9)
          (ofArrays x10 x11 x12 x13 x14 x15 x16 x17) (fun i k => x18 (ix2 i k)) (fun i => x19 (ix1 i)) := by
  have h8 := embedded_apply x0 x1 ht
  have h2 := fun s d => layerRows_apply (val_main_v95 (F := Ideal) x0 x1 x2 x3 x4 x5 x6 x7 x8 x9) x10 x11 x12 x13 x14 x15 x16 x17 hQ s d
  rw [layer_one] at h2
  simp only [layerRows_apply _ x2 x3 x4 x5 x6 x7 x8 x9 hP, h8] at h2
  unfold val_main_v187 val_main_v186 val_main_v184 val_main_v183 val_main_v185
  rw [layer_two, layer_one]
  generalize layerRows (layerRows _ _ _ _ _ _ _ _ _) _ _ _ _ _ _ _ _ = y at h2 ⊢
  pointwise
  unfold model dense
  rw [Finset.sum_congr rfl fun k _ => (congrArg (· * x18 (ix2 0 k)) (h2 0 k)).trans (mul_comm _ _)]

end Layers

end Cert.ReferenceIdeal.Ref

end
-- ==== Proof.PreValue.lean ====
/- What the precondition says: every token is 0, 1 or 2, and both layers' query projections are zero. -/
module

public import proofs.«01_k».proof.Defs
public import proofs.«01_k».proof.Proof.Spec
public import Idealize.ShloMosaic.Lib.WordCmp

@[expose] public section

set_option maxRecDepth 16384

noncomputable section

namespace Cert.Pre_tokens_and_zero_queries

open Idealize.ShloMosaic Cert.Spec

/-- The side conditions of the precondition's operations hold. -/
theorem facts : Facts := ⟨by decide, by decide, by decide, by decide, by decide⟩

/-- A word that is at least 0 and less than 3, signed, is 0, 1 or 2. -/
theorem word_cases (w : BitVec 32) (h : IntOp.andi (IntOp.cmpi .sge w 0#32) (IntOp.cmpi .slt w 3#32) = 1#1) :
    w = 0#32 ∨ w = 1#32 ∨ w = 2#32 := by
  have h' := (WordCmp.andi_sge_zero_slt_ofNat (w := 32) (k := 3) (by decide) w).symm.trans h
  have h3 : w.toNat < 3 := by
    by_contra hn
    rw [decide_eq_false hn] at h'
    exact absurd h' (by decide)
  rcases (by omega : w.toNat = 0 ∨ w.toNat = 1 ∨ w.toNat = 2) with e | e | e
  · exact Or.inl (BitVec.eq_of_toNat_eq e)
  · exact Or.inr (Or.inl (BitVec.eq_of_toNat_eq e))
  · exact Or.inr (Or.inr (BitVec.eq_of_toNat_eq e))

/-- A float equal to the zero word is zero. -/
theorem zero_of_cmp (x : EReal) (h : Ideal.cmp .oeq x (Ideal.ofBits .f32 0x00000000#32) = 1#1) : x = 0 := by
  have e : decide (x = Ideal.ofBits .f32 0x00000000#32) = true := by
    cases hd : decide (x = Ideal.ofBits .f32 0x00000000#32)
    · simp only [Ideal.cmp, hd] at h
      exact absurd h (by decide)
    · rfl
  exact (of_decide_eq_true e).trans Ideal.ofBits_zero_f32

section
variable [Facts]

variable (x0 : IVec S8192 32) (x1 : FVec Ideal S3x8 .f32) (x2 : FVec Ideal S48x16 .f32) (x3 : FVec Ideal S48 .f32)
  (x4 : FVec Ideal S16x16 .f32) (x5 : FVec Ideal S16 .f32) (x6 : FVec Ideal S16x16 .f32) (x7 : FVec Ideal S16 .f32)
  (x8 : FVec Ideal S16x16 .f32) (x9 : FVec Ideal S16 .f32) (x10 : FVec Ideal S48x16 .f32) (x11 : FVec Ideal S48 .f32)
  (x12 : FVec Ideal S16x16 .f32) (x13 : FVec Ideal S16 .f32) (x14 : FVec Ideal S16x16 .f32) (x15 : FVec Ideal S16 .f32)
  (x16 : FVec Ideal S16x16 .f32) (x17 : FVec Ideal S16 .f32) (x18 : FVec Ideal S1x16 .f32) (x19 : FVec Ideal S1 .f32)

/-- The tokens are in the table. -/
theorem tokens_in (h : (fn (F := Ideal) x0 x1 x2 x3 x4 x5 x6 x7 x8 x9 x10 x11 x12 x13 x14 x15 x16 x17 x18 x19).1 = fun _ => 1#1) :
    InTable fun s => x0 (ix1 s) := fun s => by
  have e := congrFun h (ix1 s)
  refine word_cases _ (Eq.trans ?_ e)
  unfold fn
  dsimp only
  pointwise

/-- The first 16 rows of a stacked matrix compared with zero. -/
theorem matrix_zero (W : FVec Ideal S48x16 .f32)
    (h : cmpf .oeq (extractStridedSlice S16x16 ![0, 0] W Facts.slices_S48x16_S16x16_0_0)
      (broadcastInDim S16x16 ![] Facts.bcast_S_S16x16 (constant S_ .f32 0x00000000#32)) = fun _ => 1#1) (i k : Fin 16) :
    W (ix2 ⟨i.val, by omega⟩ k) = (0 : EReal) := by
  refine zero_of_cmp _ (Eq.trans ?_ (congrFun h (ix2 i k)))
  pointwise
  try simp only [zero_add]
  try rfl

/-- The first 16 entries of a stacked bias compared with zero. -/
theorem bias_zero (b : FVec Ideal S48 .f32)
    (h : cmpf .oeq (extractStridedSlice S16 ![0] b Facts.slices_S48_S16_0)
      (broadcastInDim S16 ![] Facts.bcast_S_S16 (constant S_ .f32 0x00000000#32)) = fun _ => 1#1) (i : Fin 16) :
    b (ix1 ⟨i.val, by omega⟩) = (0 : EReal) := by
  refine zero_of_cmp _ (Eq.trans ?_ (congrFun h (ix1 i)))
  pointwise
  try simp only [zero_add]
  try rfl

/-- What the precondition says: every token is in the table's range, and both layers' query rows are zero. -/
theorem meaning (h0 : (fn (F := Ideal) x0 x1 x2 x3 x4 x5 x6 x7 x8 x9 x10 x11 x12 x13 x14 x15 x16 x17 x18 x19).1 = fun _ => 1#1)
    (h1 : (fn (F := Ideal) x0 x1 x2 x3 x4 x5 x6 x7 x8 x9 x10 x11 x12 x13 x14 x15 x16 x17 x18 x19).2.1 = fun _ => 1#1)
    (h2 : (fn (F := Ideal) x0 x1 x2 x3 x4 x5 x6 x7 x8 x9 x10 x11 x12 x13 x14 x15 x16 x17 x18 x19).2.2.1 = fun _ => 1#1)
    (h3 : (fn (F := Ideal) x0 x1 x2 x3 x4 x5 x6 x7 x8 x9 x10 x11 x12 x13 x14 x15 x16 x17 x18 x19).2.2.2.1 = fun _ => 1#1)
    (h4 : (fn (F := Ideal) x0 x1 x2 x3 x4 x5 x6 x7 x8 x9 x10 x11 x12 x13 x14 x15 x16 x17 x18 x19).2.2.2.2 = fun _ => 1#1) :
    (InTable fun s => x0 (ix1 s)) ∧ ZeroQueries (ofArrays x2 x3 x4 x5 x6 x7 x8 x9)
      ∧ ZeroQueries (ofArrays x10 x11 x12 x13 x14 x15 x16 x17) :=
  ⟨tokens_in x0 x1 x2 x3 x4 x5 x6 x7 x8 x9 x10 x11 x12 x13 x14 x15 x16 x17 x18 x19 h0, ⟨matrix_zero x2 h1, bias_zero x3 h2⟩, matrix_zero x10 h3, bias_zero x11 h4⟩

end

end Cert.Pre_tokens_and_zero_queries

end
-- ==== Proof.lean ====
/- The claims, assembled: the frames from the generated runs, and the kernel's result against the reference's, both
   the model's value at the argument arrays. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefModel
public import proofs.«01_k».proof.Proof.PreValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Spec

attribute [local instance] Cert.Kernel.Gen.facts Cert.KernelIdeal.Gen.facts Cert.ReferenceIdeal.Gen.facts
  Cert.Pre_tokens_and_zero_queries.facts

/-- The kernel runs, its arguments unchanged. -/
theorem kernel_frame : quiescent_Kernel := fun m g _ => Cert.Kernel.Gen.frame m g

/-- The idealized kernel runs, its arguments unchanged. -/
theorem ideal_frame : quiescent_KernelIdeal := fun m g _ => Cert.KernelIdeal.Gen.frame m g

/-- So also under the precondition. -/
theorem ideal_frame_pre : quiescent_KernelIdeal_pre_tokens_and_zero_queries := fun m g _ => Cert.KernelIdeal.Gen.frame m g

/-- The reference runs, its arguments unchanged; it has no semaphore. -/
theorem reference_frame : quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- So also under the precondition. -/
theorem reference_frame_pre : quiescent_ReferenceIdeal_pre_tokens_and_zero_queries := fun m g _ => reference_frame m g trivial

/-- The precondition read at a memory of the kernel. -/
theorem meaning (m : (ℓ : Loc Cert.KernelIdeal.nD Cert.KernelIdeal.τ Cert.KernelIdeal.sig) → Buf (Elt Ideal) ℓ)
    (h : Pre_KernelIdeal_tokens_and_zero_queries m) (c : Dev Cert.KernelIdeal.nD) :
    (InTable fun s => (m ((c.tc : Thread Cert.KernelIdeal.nD Cert.KernelIdeal.τ).loc Cert.KernelIdeal.main_arg0)) (ix1 s))
      ∧ ZeroQueries (ofArrays (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      ∧ ZeroQueries (ofArrays (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) :=
  Cert.Pre_tokens_and_zero_queries.meaning _ _ _ _ _ _ _ _ _ _ _ _ _ _ _ _ _ _ _ _ (h c).1 (h c).2.1 (h c).2.2.1 (h c).2.2.2.1 (h c).2.2.2.2

open Cert.KernelIdeal Cert.KernelIdeal.Gen in
/-- The last host operation reshapes the output array, so where that is constant, the result is. -/
theorem kernel_tail (m : (ℓ : Loc nD τ sig) → Buf (Elt Ideal) ℓ) (c : Dev nD) (a : EReal)
    (h : (dats m 0 c).arrAt 20 (cfgs 0).N = fun _ => a) :
    Pipeline.afterTail₀ cfgs (dats m) 0 (V0 m) [hostOps1] c main_v11 = fun _ => a := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.tc.devRef main_v10)
    = (fun _ => a : FVec Ideal S1x1 .f32) from (Pipeline.withArrays_arr spec0 (by decide) c (V0 m c) _ 20).trans h]
  rfl

open Cert.KernelIdeal Cert.KernelIdeal.Gen in
/-- The kernel's run leaves the model's value in the result. -/
theorem kernel_run (m : (ℓ : Loc nD τ sig) → Buf (Elt Ideal) ℓ) (g : Dev nD → PrngReg)
    (ht : ∀ c : Dev nD, InTable fun s => m ((c.tc : Thread nD τ).loc main_arg0) (ix1 s)) :
    θ_run (defs (F := Ideal)) (onTc (τ := τ) (main (F := Ideal))) ⟨m, fun _ => 0, g⟩ (fun r => ∀ c : Dev nD,
      r.2.mem ((c.tc : Thread nD τ).loc main_v11) = (fun _ => Cert.KernelIdeal.Kernel.answer m c)) := by
  run_from run_main m g
  exact kernel_tail m _ _ (Cert.KernelIdeal.Kernel.result_array m _ (ht _))

/-- The reference's closed term, at arrays that agree with the kernel's, is the model's value at those. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_tokens_and_zero_queries m) (c : Dev Cert.KernelIdeal.nD)
    (h : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)) ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)) ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)) ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)) ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)) ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)) ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)) ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)) ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)) ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)) ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)) ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)) ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)) ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)) ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)) ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)) ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)) ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)) ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)) ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))) :
    Cert.ReferenceIdeal.Read.val_main_v187 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
      = fun _ => Cert.KernelIdeal.Kernel.answer m c := by
  obtain ⟨h0, h1, h2, h3, h4, h5, h6, h7, h8, h9, h10, h11, h12, h13, h14, h15, h16, h17, h18, h19⟩ := h
  rw [h0, h1, h2, h3, h4, h5, h6, h7, h8, h9, h10, h11, h12, h13, h14, h15, h16, h17, h18, h19]
  obtain ⟨ht, hP, hQ⟩ := meaning m hpre c
  funext j
  have e : j = (ix1 0 : Cert.ReferenceIdeal.S1.Idx) := (ValueIdx.eq_ix1 (n := 1) j).trans (congrArg (ix1 (n0 := 1)) (Subsingleton.elim (α := Fin 1) (j 0) 0))
  rw [e]
  exact Cert.ReferenceIdeal.Ref.result_apply _ _ _ _ _ _ _ _ _ _ _ _ _ _ _ _ _ _ _ _ ht hP hQ

/-- The kernel's result is the reference's: both are the model's value at the argument arrays. -/
theorem same_result : algebraic_KernelIdeal_ReferenceIdeal_pre_tokens_and_zero_queries := by
  intro m g m' g' hpre hagree
  refine ⟨fun c _ => Cert.KernelIdeal.Kernel.answer m c, ?_, ?_⟩
  · exact (θ_run Cert.KernelIdeal.defs _ _).mono (fun r h c => ⟨h.2 c, h.1.1 c⟩)
      (θ_run_and (Cert.KernelIdeal.Gen.frame m g) (kernel_run m g fun c => (meaning m hpre c).1))
  · refine (θ_run Cert.ReferenceIdeal.defs _ _).mono (fun r h c => ⟨(h c).1.trans ?_, (h c).2⟩)
      (Cert.ReferenceIdeal.Value.run m' g')
    exact (Cert.ReferenceIdeal.Read.val_main_v187_eq _).trans (reference_value m m' hpre c (hagree c))

/-- The whole claim. -/
theorem claim : Cert.Claim := ⟨Cert.Kernel.Gen.facts, Cert.KernelIdeal.Gen.facts, Cert.ReferenceIdeal.Gen.facts,
  Cert.Pre_tokens_and_zero_queries.facts, kernel_frame, ideal_frame, ideal_frame_pre, reference_frame, reference_frame_pre,
  trivial, same_result⟩

end Cert.Proof

end
